-- ==== Defs.lean ====
def Pre_Attn4 (m : (ℓ : Loc Cert.Attn4.nD Cert.Attn4.τ Cert.Attn4.sig) → Buf (Elt Bits) ℓ) : Prop :=
  True

def Pre_Attn4Ideal (m : (ℓ : Loc Cert.Attn4Ideal.nD Cert.Attn4Ideal.τ Cert.Attn4Ideal.sig) → Buf (Elt Ideal) ℓ) : Prop :=
  True

def Pre_Attn4RefIdeal (m : (ℓ : Loc Cert.Attn4RefIdeal.nD Cert.Attn4RefIdeal.τ Cert.Attn4RefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Attn4 [hAttn4 : Cert.Attn4.Facts] : Prop :=
  ∀ (m : (ℓ : Loc Cert.Attn4.nD Cert.Attn4.τ Cert.Attn4.sig) → Buf (Elt Bits) ℓ) (g : Dev Cert.Attn4.nD → PrngReg), Pre_Attn4 m →
    θ_run (Cert.Attn4.defs (F := Bits)) (onTc (τ := Cert.Attn4.τ) (Cert.Attn4.main (F := Bits))) ⟨m, fun _ => 0, g⟩ (fun r => (∀ c : Dev Cert.Attn4.nD,
      r.2.mem ((c.tc : Thread Cert.Attn4.nD Cert.Attn4.τ).loc Cert.Attn4.main_arg0) = m ((c.tc : Thread Cert.Attn4.nD Cert.Attn4.τ).loc Cert.Attn4.main_arg0)
      ∧ r.2.mem ((c.tc : Thread Cert.Attn4.nD Cert.Attn4.τ).loc Cert.Attn4.main_arg1) = m ((c.tc : Thread Cert.Attn4.nD Cert.Attn4.τ).loc Cert.Attn4.main_arg1)
      ∧ r.2.mem ((c.tc : Thread Cert.Attn4.nD Cert.Attn4.τ).loc Cert.Attn4.main_arg2) = m ((c.tc : Thread Cert.Attn4.nD Cert.Attn4.τ).loc Cert.Attn4.main_arg2))
      ∧ r.2.sem = fun _ => 0)

def quiescent_Attn4Ideal [hAttn4Ideal : Cert.Attn4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
      ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
      ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2))
      ∧ r.2.sem = fun _ => 0)

def quiescent_Attn4RefIdeal [hAttn4RefIdeal : Cert.Attn4RefIdeal.Facts] : Prop :=
  ∀ (m : (ℓ : Loc Cert.Attn4RefIdeal.nD Cert.Attn4RefIdeal.τ Cert.Attn4RefIdeal.sig) → Buf (Elt Ideal) ℓ) (g : Dev Cert.Attn4RefIdeal.nD → PrngReg), Pre_Attn4RefIdeal m →
    θ_run (Cert.Attn4RefIdeal.defs (F := Ideal)) (onTc (τ := Cert.Attn4RefIdeal.τ) (Cert.Attn4RefIdeal.main (F := Ideal))) ⟨m, fun _ => 0, g⟩ (fun r => (∀ c : Dev Cert.Attn4RefIdeal.nD,
      r.2.mem ((c.tc : Thread Cert.Attn4RefIdeal.nD Cert.Attn4RefIdeal.τ).loc Cert.Attn4RefIdeal.main_arg0) = m ((c.tc : Thread Cert.Attn4RefIdeal.nD Cert.Attn4RefIdeal.τ).loc Cert.Attn4RefIdeal.main_arg0)
      ∧ r.2.mem ((c.tc : Thread Cert.Attn4RefIdeal.nD Cert.Attn4RefIdeal.τ).loc Cert.Attn4RefIdeal.main_arg1) = m ((c.tc : Thread Cert.Attn4RefIdeal.nD Cert.Attn4RefIdeal.τ).loc Cert.Attn4RefIdeal.main_arg1)
      ∧ r.2.mem ((c.tc : Thread Cert.Attn4RefIdeal.nD Cert.Attn4RefIdeal.τ).loc Cert.Attn4RefIdeal.main_arg2) = m ((c.tc : Thread Cert.Attn4RefIdeal.nD Cert.Attn4RefIdeal.τ).loc Cert.Attn4RefIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7)
      ∧ r.2.mem ((c.tc : Thread Cert.MlpRefIdeal.nD Cert.MlpRefIdeal.τ).loc Cert.MlpRefIdeal.main_arg8) = m ((c.tc : Thread Cert.MlpRefIdeal.nD Cert.MlpRefIdeal.τ).loc Cert.MlpRefIdeal.main_arg8)
      ∧ r.2.mem ((c.tc : Thread Cert.MlpRefIdeal.nD Cert.MlpRefIdeal.τ).loc Cert.MlpRefIdeal.main_arg9) = m ((c.tc : Thread Cert.MlpRefIdeal.nD Cert.MlpRefIdeal.τ).loc Cert.MlpRefIdeal.main_arg9)
      ∧ r.2.mem ((c.tc : Thread Cert.MlpRefIdeal.nD Cert.MlpRefIdeal.τ).loc Cert.MlpRefIdeal.main_arg10) = m ((c.tc : Thread Cert.MlpRefIdeal.nD Cert.MlpRefIdeal.τ).loc Cert.MlpRefIdeal.main_arg10)
      ∧ r.2.mem ((c.tc : Thread Cert.MlpRefIdeal.nD Cert.MlpRefIdeal.τ).loc Cert.MlpRefIdeal.main_arg11) = m ((c.tc : Thread Cert.MlpRefIdeal.nD Cert.MlpRefIdeal.τ).loc Cert.MlpRefIdeal.main_arg11)
      ∧ r.2.mem ((c.tc : Thread Cert.MlpRefIdeal.nD Cert.MlpRefIdeal.τ).loc Cert.MlpRefIdeal.main_arg12) = m ((c.tc : Thread Cert.MlpRefIdeal.nD Cert.MlpRefIdeal.τ).loc Cert.MlpRefIdeal.main_arg12))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def preserves_Attn4_Attn4Ideal : Prop :=
  IdealRules.named_const.Statement Cert.Attn4Ideal.κ "mask" .f32 0xF149F2CA#32 ⊥

def algebraic_Attn4Ideal_Attn4RefIdeal [hAttn4Ideal : Cert.Attn4Ideal.Facts] [hAttn4RefIdeal : Cert.Attn4RefIdeal.Facts] : Prop :=
  ∀ (m : (ℓ : Loc Cert.Attn4Ideal.nD Cert.Attn4Ideal.τ Cert.Attn4Ideal.sig) → Buf (Elt Ideal) ℓ) (g : Dev Cert.Attn4Ideal.nD → PrngReg)
    (m' : (ℓ : Loc Cert.Attn4RefIdeal.nD Cert.Attn4RefIdeal.τ Cert.Attn4RefIdeal.sig) → Buf (Elt Ideal) ℓ) (g' : Dev Cert.Attn4RefIdeal.nD → PrngReg), Pre_Attn4Ideal m →
    (∀ c : Dev Cert.Attn4Ideal.nD,
      m' ((c.tc : Thread Cert.Attn4RefIdeal.nD Cert.Attn4RefIdeal.τ).loc Cert.Attn4RefIdeal.main_arg0) = m ((c.tc : Thread Cert.Attn4Ideal.nD Cert.Attn4Ideal.τ).loc Cert.Attn4Ideal.main_arg0)
      ∧ m' ((c.tc : Thread Cert.Attn4RefIdeal.nD Cert.Attn4RefIdeal.τ).loc Cert.Attn4RefIdeal.main_arg1) = m ((c.tc : Thread Cert.Attn4Ideal.nD Cert.Attn4Ideal.τ).loc Cert.Attn4Ideal.main_arg1)
      ∧ m' ((c.tc : Thread Cert.Attn4RefIdeal.nD Cert.Attn4RefIdeal.τ).loc Cert.Attn4RefIdeal.main_arg2) = m ((c.tc : Thread Cert.Attn4Ideal.nD Cert.Attn4Ideal.τ).loc Cert.Attn4Ideal.main_arg2)) →
    ∃ (v0 : (c : Dev Cert.Attn4Ideal.nD) → Buf (Elt Ideal) ((c.tc : Thread Cert.Attn4Ideal.nD Cert.Attn4Ideal.τ).loc Cert.Attn4Ideal.main_v5_0)) (v1 : (c : Dev Cert.Attn4Ideal.nD) → Buf (Elt Ideal) ((c.tc : Thread Cert.Attn4Ideal.nD Cert.Attn4Ideal.τ).loc Cert.Attn4Ideal.main_v5_1)),
      θ_run (Cert.Attn4Ideal.defs (F := Ideal)) (onTc (τ := Cert.Attn4Ideal.τ) (Cert.Attn4Ideal.main (F := Ideal))) ⟨m, fun _ => 0, g⟩ (fun r => ∀ c : Dev Cert.Attn4Ideal.nD,
          r.2.mem ((c.tc : Thread Cert.Attn4Ideal.nD Cert.Attn4Ideal.τ).loc Cert.Attn4Ideal.main_v5_0) = v0 c
          ∧ r.2.mem ((c.tc : Thread Cert.Attn4Ideal.nD Cert.Attn4Ideal.τ).loc Cert.Attn4Ideal.main_v5_1) = v1 c
          ∧ r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
          ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
          ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2))
      ∧ θ_run (Cert.Attn4RefIdeal.defs (F := Ideal)) (onTc (τ := Cert.Attn4RefIdeal.τ) (Cert.Attn4RefIdeal.main (F := Ideal))) ⟨m', fun _ => 0, g'⟩ (fun r => ∀ c : Dev Cert.Attn4RefIdeal.nD,
          r.2.mem ((c.tc : Thread Cert.Attn4RefIdeal.nD Cert.Attn4RefIdeal.τ).loc Cert.Attn4RefIdeal.main_v82) = v0 c
          ∧ r.2.mem ((c.tc : Thread Cert.Attn4RefIdeal.nD Cert.Attn4RefIdeal.τ).loc Cert.Attn4RefIdeal.main_v85) = v1 c
          ∧ r.2.mem ((c.tc : Thread Cert.Attn4RefIdeal.nD Cert.Attn4RefIdeal.τ).loc Cert.Attn4RefIdeal.main_arg0) = m' ((c.tc : Thread Cert.Attn4RefIdeal.nD Cert.Attn4RefIdeal.τ).loc Cert.Attn4RefIdeal.main_arg0)
          ∧ r.2.mem ((c.tc : Thread Cert.Attn4RefIdeal.nD Cert.Attn4RefIdeal.τ).loc Cert.Attn4RefIdeal.main_arg1) = m' ((c.tc : Thread Cert.Attn4RefIdeal.nD Cert.Attn4RefIdeal.τ).loc Cert.Attn4RefIdeal.main_arg1)
          ∧ r.2.mem ((c.tc : Thread Cert.Attn4RefIdeal.nD Cert.Attn4RefIdeal.τ).loc Cert.Attn4RefIdeal.main_arg2) = m' ((c.tc : Thread Cert.Attn4RefIdeal.nD Cert.Attn4RefIdeal.τ).loc Cert.Attn4RefIdeal.main_arg2))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)
      ∧ m' ((c.tc : Thread Cert.MlpRefIdeal.nD Cert.MlpRefIdeal.τ).loc Cert.MlpRefIdeal.main_arg8) = m ((c.tc : Thread Cert.MlpIdeal.nD Cert.MlpIdeal.τ).loc Cert.MlpIdeal.main_arg8)
      ∧ m' ((c.tc : Thread Cert.MlpRefIdeal.nD Cert.MlpRefIdeal.τ).loc Cert.MlpRefIdeal.main_arg9) = m ((c.tc : Thread Cert.MlpIdeal.nD Cert.MlpIdeal.τ).loc Cert.MlpIdeal.main_arg9)
      ∧ m' ((c.tc : Thread Cert.MlpRefIdeal.nD Cert.MlpRefIdeal.τ).loc Cert.MlpRefIdeal.main_arg10) = m ((c.tc : Thread Cert.MlpIdeal.nD Cert.MlpIdeal.τ).loc Cert.MlpIdeal.main_arg10)
      ∧ m' ((c.tc : Thread Cert.MlpRefIdeal.nD Cert.MlpRefIdeal.τ).loc Cert.MlpRefIdeal.main_arg11) = m ((c.tc : Thread Cert.MlpIdeal.nD Cert.MlpIdeal.τ).loc Cert.MlpIdeal.main_arg11)
      ∧ m' ((c.tc : Thread Cert.MlpRefIdeal.nD Cert.MlpRefIdeal.τ).loc Cert.MlpRefIdeal.main_arg12) = m ((c.tc : Thread Cert.MlpIdeal.nD Cert.MlpIdeal.τ).loc Cert.MlpIdeal.main_arg12)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v66) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7)
          ∧ r.2.mem ((c.tc : Thread Cert.MlpRefIdeal.nD Cert.MlpRefIdeal.τ).loc Cert.MlpRefIdeal.main_arg8) = m' ((c.tc : Thread Cert.MlpRefIdeal.nD Cert.MlpRefIdeal.τ).loc Cert.MlpRefIdeal.main_arg8)
          ∧ r.2.mem ((c.tc : Thread Cert.MlpRefIdeal.nD Cert.MlpRefIdeal.τ).loc Cert.MlpRefIdeal.main_arg9) = m' ((c.tc : Thread Cert.MlpRefIdeal.nD Cert.MlpRefIdeal.τ).loc Cert.MlpRefIdeal.main_arg9)
          ∧ r.2.mem ((c.tc : Thread Cert.MlpRefIdeal.nD Cert.MlpRefIdeal.τ).loc Cert.MlpRefIdeal.main_arg10) = m' ((c.tc : Thread Cert.MlpRefIdeal.nD Cert.MlpRefIdeal.τ).loc Cert.MlpRefIdeal.main_arg10)
          ∧ r.2.mem ((c.tc : Thread Cert.MlpRefIdeal.nD Cert.MlpRefIdeal.τ).loc Cert.MlpRefIdeal.main_arg11) = m' ((c.tc : Thread Cert.MlpRefIdeal.nD Cert.MlpRefIdeal.τ).loc Cert.MlpRefIdeal.main_arg11)
          ∧ r.2.mem ((c.tc : Thread Cert.MlpRefIdeal.nD Cert.MlpRefIdeal.τ).loc Cert.MlpRefIdeal.main_arg12) = m' ((c.tc : Thread Cert.MlpRefIdeal.nD Cert.MlpRefIdeal.τ).loc Cert.MlpRefIdeal.main_arg12))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v19_0)) (v1 : (c : Dev Cert.ProjIdeal.nD) → Buf (Elt Ideal) ((c.tc : Thread Cert.ProjIdeal.nD Cert.ProjIdeal.τ).loc Cert.ProjIdeal.main_v19_1)) (v2 : (c : Dev Cert.ProjIdeal.nD) → Buf (Elt Ideal) ((c.tc : Thread Cert.ProjIdeal.nD Cert.ProjIdeal.τ).loc Cert.ProjIdeal.main_v19_2)) (v3 : (c : Dev Cert.ProjIdeal.nD) → Buf (Elt Ideal) ((c.tc : Thread Cert.ProjIdeal.nD Cert.ProjIdeal.τ).loc Cert.ProjIdeal.main_v19_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v19_0) = v0 c
          ∧ r.2.mem ((c.tc : Thread Cert.ProjIdeal.nD Cert.ProjIdeal.τ).loc Cert.ProjIdeal.main_v19_1) = v1 c
          ∧ r.2.mem ((c.tc : Thread Cert.ProjIdeal.nD Cert.ProjIdeal.τ).loc Cert.ProjIdeal.main_v19_2) = v2 c
          ∧ r.2.mem ((c.tc : Thread Cert.ProjIdeal.nD Cert.ProjIdeal.τ).loc Cert.ProjIdeal.main_v19_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v51) = v0 c
          ∧ r.2.mem ((c.tc : Thread Cert.ProjRefIdeal.nD Cert.ProjRefIdeal.τ).loc Cert.ProjRefIdeal.main_v54) = v1 c
          ∧ r.2.mem ((c.tc : Thread Cert.ProjRefIdeal.nD Cert.ProjRefIdeal.τ).loc Cert.ProjRefIdeal.main_v57) = v2 c
          ∧ r.2.mem ((c.tc : Thread Cert.ProjRefIdeal.nD Cert.ProjRefIdeal.τ).loc Cert.ProjRefIdeal.main_v58) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def Claim : Prop :=
  ∃ (hAttn4 : Cert.Attn4.Facts) (hAttn4Ideal : Cert.Attn4Ideal.Facts) (hAttn4RefIdeal : Cert.Attn4RefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts),
    quiescent_Attn4 (hAttn4 := hAttn4)
    ∧ quiescent_Attn4Ideal (hAttn4Ideal := hAttn4Ideal)
    ∧ quiescent_Attn4RefIdeal (hAttn4RefIdeal := hAttn4RefIdeal)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ preserves_Attn4_Attn4Ideal
    ∧ algebraic_Attn4Ideal_Attn4RefIdeal (hAttn4Ideal := hAttn4Ideal) (hAttn4RefIdeal := hAttn4RefIdeal)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
-- ==== Attn4.lean ====
abbrev S2x16384x256 : Shape := ⟨3, ![2, 16384, 256]⟩
abbrev S2x4096x1024 : Shape := ⟨3, ![2, 4096, 1024]⟩
abbrev S1x1024x256 : Shape := ⟨3, ![1, 1024, 256]⟩
abbrev S1x128x256 : Shape := ⟨3, ![1, 128, 256]⟩
abbrev S1152x256 : Shape := ⟨2, ![1152, 256]⟩
abbrev S128x256 : Shape := ⟨2, ![128, 256]⟩
abbrev S1024x256 : Shape := ⟨2, ![1024, 256]⟩
abbrev S512x256 : Shape := ⟨2, ![512, 256]⟩
abbrev S256x256 : Shape := ⟨2, ![256, 256]⟩
abbrev S128 : Shape := ⟨1, ![128]⟩
abbrev S128x1 : Shape := ⟨2, ![128, 1]⟩

abbrev nBuf : Space → Nat
  | .hbm => 10
  | .vmem => 16
  | .smem => 0
  | _ => 0

abbrev bufTy : (tb : Table) → Fin (tcTables nBuf tb) → BufTy
  | .hbm, ⟨0, _⟩ => ⟨S2x16384x256, .bf16⟩
  | .hbm, ⟨1, _⟩ => ⟨S2x16384x256, .bf16⟩
  | .hbm, ⟨2, _⟩ => ⟨S2x16384x256, .bf16⟩
  | .hbm, ⟨3, _⟩ => ⟨S2x4096x1024, .bf16⟩
  | .hbm, ⟨4, _⟩ => ⟨S2x4096x1024, .bf16⟩
  | .hbm, ⟨5, _⟩ => ⟨S2x4096x1024, .bf16⟩
  | .hbm, ⟨6, _⟩ => ⟨S2x4096x1024, .bf16⟩
  | .hbm, ⟨7, _⟩ => ⟨S2x4096x1024, .bf16⟩
  | .hbm, ⟨8, _⟩ => ⟨S2x4096x1024, .bf16⟩
  | .hbm, ⟨9, _⟩ => ⟨S2x4096x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x128x256, .bf16⟩
  | .local _ .vmem, ⟨5, _⟩ => ⟨S1x128x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x1024x256, .bf16⟩
  | .local _ .vmem, ⟨11, _⟩ => ⟨S1x1024x256, .bf16⟩
  | .local _ .vmem, ⟨12, _⟩ => ⟨S1x1024x256, .f32⟩
  | .local _ .vmem, ⟨13, _⟩ => ⟨S1x1024x256, .f32⟩
  | .local _ .vmem, ⟨14, _⟩ => ⟨S1152x256, .bf16⟩
  | .local _ .vmem, ⟨15, _⟩ => ⟨S1152x256, .bf16⟩
  | _, _ => ⟨S2x16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg2 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Attn4Ideal.lean ====
variable {F : FTy → Type} [FloatOps F] [Named F]
def κ : String → Option EReal := fun
  | "mask" => some ⊥
  | _ => none
-- ==== Attn4RefIdeal.lean ====
abbrev S2x16384x256 : Shape := ⟨3, ![2, 16384, 256]⟩
abbrev S16384x2x256 : Shape := ⟨3, ![16384, 2, 256]⟩
abbrev S1x16384x8x64 : Shape := ⟨4, ![1, 16384, 8, 64]⟩
abbrev S1x4096x4x8x64 : Shape := ⟨5, ![1, 4096, 4, 8, 64]⟩
abbrev S1x4x8x4096x64 : Shape := ⟨5, ![1, 4, 8, 4096, 64]⟩
abbrev S1x4x8x32x128x64 : Shape := ⟨6, ![1, 4, 8, 32, 128, 64]⟩
abbrev S1x4x8x31x128x64 : Shape := ⟨6, ![1, 4, 8, 31, 128, 64]⟩
abbrev S_ : Shape := ⟨0, ![]⟩
abbrev S1x4x8x32x256x64 : Shape := ⟨6, ![1, 4, 8, 32, 256, 64]⟩
abbrev S1x4x8x32x128x256 : Shape := ⟨6, ![1, 4, 8, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x4x8x32x128 : Shape := ⟨5, ![1, 4, 8, 32, 128]⟩
abbrev S1x4x8x32x128x1 : Shape := ⟨6, ![1, 4, 8, 32, 128, 1]⟩
abbrev S1x4x8x4096 : Shape := ⟨4, ![1, 4, 8, 4096]⟩
abbrev S1x4096x4x8 : Shape := ⟨4, ![1, 4096, 4, 8]⟩
abbrev S1x16384x8 : Shape := ⟨3, ![1, 16384, 8]⟩
abbrev S1x16384x8x1 : Shape := ⟨4, ![1, 16384, 8, 1]⟩
abbrev S2x4096x1024 : Shape := ⟨3, ![2, 4096, 1024]⟩

abbrev nBuf : Space → Nat
  | .hbm => 105
  | .vmem => 0
  | .smem => 0
  | _ => 0

abbrev bufTy : (tb : Table) → Fin (tcTables nBuf tb) → BufTy
  | .hbm, ⟨0, _⟩ => ⟨S2x16384x256, .bf16⟩
  | .hbm, ⟨1, _⟩ => ⟨S2x16384x256, .bf16⟩
  | .hbm, ⟨2, _⟩ => ⟨S2x16384x256, .bf16⟩
  | .hbm, ⟨3, _⟩ => ⟨S2x16384x256, .f32⟩
  | .hbm, ⟨4, _⟩ => ⟨S16384x2x256, .f32⟩
  | .hbm, ⟨5, _⟩ => ⟨S1x16384x8x64, .f32⟩
  | .hbm, ⟨6, _⟩ => ⟨S2x16384x256, .f32⟩
  | .hbm, ⟨7, _⟩ => ⟨S16384x2x256, .f32⟩
  | .hbm, ⟨8, _⟩ => ⟨S1x16384x8x64, .f32⟩
  | .hbm, ⟨9, _⟩ => ⟨S2x16384x256, .f32⟩
  | .hbm, ⟨10, _⟩ => ⟨S16384x2x256, .f32⟩
  | .hbm, ⟨11, _⟩ => ⟨S1x16384x8x64, .f32⟩
  | .hbm, ⟨12, _⟩ => ⟨S1x4096x4x8x64, .f32⟩
  | .hbm, ⟨13, _⟩ => ⟨S1x4x8x4096x64, .f32⟩
  | .hbm, ⟨14, _⟩ => ⟨S1x4x8x32x128x64, .f32⟩
  | .hbm, ⟨15, _⟩ => ⟨S1x4096x4x8x64, .f32⟩
  | .hbm, ⟨16, _⟩ => ⟨S1x4x8x4096x64, .f32⟩
  | .hbm, ⟨17, _⟩ => ⟨S1x4x8x32x128x64, .f32⟩
  | .hbm, ⟨18, _⟩ => ⟨S1x4096x4x8x64, .f32⟩
  | .hbm, ⟨19, _⟩ => ⟨S1x4x8x4096x64, .f32⟩
  | .hbm, ⟨20, _⟩ => ⟨S1x4x8x32x128x64, .f32⟩
  | .hbm, ⟨21, _⟩ => ⟨S1x4x8x31x128x64, .f32⟩
  | .hbm, ⟨22, _⟩ => ⟨S_, .i32⟩
  | .hbm, ⟨23, _⟩ => ⟨S_, .f32⟩
  | .hbm, ⟨24, _⟩ => ⟨S1x4x8x32x128x64, .f32⟩
  | .hbm, ⟨25, _⟩ => ⟨S1x4x8x32x256x64, .f32⟩
  | .hbm, ⟨26, _⟩ => ⟨S1x4x8x31x128x64, .f32⟩
  | .hbm, ⟨27, _⟩ => ⟨S_, .i32⟩
  | .hbm, ⟨28, _⟩ => ⟨S_, .f32⟩
  | .hbm, ⟨29, _⟩ => ⟨S1x4x8x32x128x64, .f32⟩
  | .hbm, ⟨30, _⟩ => ⟨S1x4x8x32x256x64, .f32⟩
  | .hbm, ⟨31, _⟩ => ⟨S1x4x8x32x128x256, .f32⟩
  | .hbm, ⟨32, _⟩ => ⟨S128, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S256, .i32⟩
  | .hbm, ⟨38, _⟩ => ⟨S1x256, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S32, .i32⟩
  | .hbm, ⟨50, _⟩ => ⟨S32x1x1, .i32⟩
  | .hbm, ⟨51, _⟩ => ⟨S_, .i32⟩
  | .hbm, ⟨52, _⟩ => ⟨S32x1x1, .i32⟩
  | .hbm, ⟨53, _⟩ => ⟨S32x1x1, .i32⟩
  | .hbm, ⟨54, _⟩ => ⟨S_, .i32⟩
  | .hbm, ⟨55, _⟩ => ⟨S32x1x1, .i32⟩
  | .hbm, ⟨56, _⟩ => ⟨S32x1x1, .i32⟩
  | .hbm, ⟨57, _⟩ => ⟨S1x1x256, .i32⟩
  | .hbm, ⟨58, _⟩ => ⟨S32x1x256, .i32⟩
  | .hbm, ⟨59, _⟩ => ⟨S32x1x256, .i32⟩
  | .hbm, ⟨60, _⟩ => ⟨S32x1x256, .i32⟩
  | .hbm, ⟨61, _⟩ => ⟨S_, .i32⟩
  | .hbm, ⟨62, _⟩ => ⟨S32x1x256, .i32⟩
  | .hbm, ⟨63, _⟩ => ⟨S32x1x256, .i1⟩
  | .hbm, ⟨64, _⟩ => ⟨S1x128x256, .i1⟩
  | .hbm, ⟨65, _⟩ => ⟨S32x128x256, .i1⟩
  | .hbm, ⟨66, _⟩ => ⟨S32x128x256, .i1⟩
  | .hbm, ⟨67, _⟩ => ⟨S32x128x256, .i1⟩
  | .hbm, ⟨68, _⟩ => ⟨S_, .f32⟩
  | .hbm, ⟨69, _⟩ => ⟨S_, .f32⟩
  | .hbm, ⟨70, _⟩ => ⟨S1x4x8x32x128x256, .i1⟩
  | .hbm, ⟨71, _⟩ => ⟨S1x4x8x32x128x256, .f32⟩
  | .hbm, ⟨72, _⟩ => ⟨S1x4x8x32x128x256, .f32⟩
  | .hbm, ⟨73, _⟩ => ⟨S_, .f32⟩
  | .hbm, ⟨74, _⟩ => ⟨S1x4x8x32x128, .f32⟩
  | .hbm, ⟨75, _⟩ => ⟨S1x4x8x32x128x1, .f32⟩
  | .hbm, ⟨76, _⟩ => ⟨S1x4x8x32x128x256, .f32⟩
  | .hbm, ⟨77, _⟩ => ⟨S1x4x8x32x128x256, .f32⟩
  | .hbm, ⟨78, _⟩ => ⟨S1x4x8x32x128x256, .f32⟩
  | .hbm, ⟨79, _⟩ => ⟨S_, .f32⟩
  | .hbm, ⟨80, _⟩ => ⟨S1x4x8x32x128, .f32⟩
  | .hbm, ⟨81, _⟩ => ⟨S1x4x8x32x128x64, .f32⟩
  | .hbm, ⟨82, _⟩ => ⟨S1x4x8x4096x64, .f32⟩
  | .hbm, ⟨83, _⟩ => ⟨S1x4096x4x8x64, .f32⟩
  | .hbm, ⟨84, _⟩ => ⟨S1x16384x8x64, .f32⟩
  | .hbm, ⟨85, _⟩ => ⟨S1x4x8x4096, .f32⟩
  | .hbm, ⟨86, _⟩ => ⟨S1x4096x4x8, .f32⟩
  | .hbm, ⟨87, _⟩ => ⟨S1x16384x8, .f32⟩
  | .hbm, ⟨88, _⟩ => ⟨S1x4x8x4096, .f32⟩
  | .hbm, ⟨89, _⟩ => ⟨S1x4096x4x8, .f32⟩
  | .hbm, ⟨90, _⟩ => ⟨S1x16384x8, .f32⟩
  | .hbm, ⟨91, _⟩ => ⟨S1x16384x8x1, .f32⟩
  | .hbm, ⟨92, _⟩ => ⟨S1x16384x8x64, .f32⟩
  | .hbm, ⟨93, _⟩ => ⟨S1x16384x8x64, .f32⟩
  | .hbm, ⟨94, _⟩ => ⟨S1x16384x8, .f32⟩
  | .hbm, ⟨95, _⟩ => ⟨S1x16384x8, .f32⟩
  | .hbm, ⟨96, _⟩ => ⟨S1x16384x8x1, .f32⟩
  | .hbm, ⟨97, _⟩ => ⟨S1x16384x8x64, .f32⟩
  | .hbm, ⟨98, _⟩ => ⟨S16384x2x256, .f32⟩
  | .hbm, ⟨99, _⟩ => ⟨S2x16384x256, .f32⟩
  | .hbm, ⟨100, _⟩ => ⟨S2x4096x1024, .f32⟩
  | .hbm, ⟨101, _⟩ => ⟨S2x4096x1024, .bf16⟩
  | .hbm, ⟨102, _⟩ => ⟨S16384x2x256, .f32⟩
  | .hbm, ⟨103, _⟩ => ⟨S2x16384x256, .f32⟩
  | .hbm, ⟨104, _⟩ => ⟨S2x4096x1024, .f32⟩
  | _, _ => ⟨S2x16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_call0_v0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_c_0 : Ref sig .tc := ⟨.hbm, 27, rfl⟩
abbrev main_call1_v0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_c_2 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_c_4 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_c_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩

abbrev nD : Nat := 1
abbrev τ : Topo := Topo.v7x

variable {F : FTy → Type} [FloatOps F]
-- ==== Mlp.lean ====
abbrev S16384x1024 : Shape := ⟨2, ![16384, 1024]⟩
abbrev S2x16384x256 : Shape := ⟨3, ![2, 16384, 256]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x512 : Shape := ⟨2, ![1, 512]⟩
abbrev S1x1024 : Shape := ⟨2, ![1, 1024]⟩
abbrev S512x1024 : Shape := ⟨2, ![512, 1024]⟩
abbrev S2x512x256 : Shape := ⟨3, ![2, 512, 256]⟩
abbrev S512x512 : Shape := ⟨2, ![512, 512]⟩
abbrev S1x512x256 : Shape := ⟨3, ![1, 512, 256]⟩
abbrev S512x256 : Shape := ⟨2, ![512, 256]⟩
abbrev S512x1 : Shape := ⟨2, ![512, 1]⟩

abbrev nBuf : Space → Nat
  | .hbm => 19
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S2x16384x256, .bf16⟩
  | .hbm, ⟨2, _⟩ => ⟨S2x16384x256, .bf16⟩
  | .hbm, ⟨3, _⟩ => ⟨S2x16384x256, .bf16⟩
  | .hbm, ⟨4, _⟩ => ⟨S2x16384x256, .f32⟩
  | .hbm, ⟨5, _⟩ => ⟨S2x16384x256, .f32⟩
  | .hbm, ⟨6, _⟩ => ⟨S2x16384x256, .f32⟩
  | .hbm, ⟨7, _⟩ => ⟨S16384x512, .bf16⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S1x512, .f32⟩
  | .hbm, ⟨14, _⟩ => ⟨S1024x1024, .bf16⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S2x512x256, .bf16⟩
  | .local _ .vmem, ⟨3, _⟩ => ⟨S2x512x256, .bf16⟩
  | .local _ .vmem, ⟨4, _⟩ => ⟨S2x512x256, .bf16⟩
  | .local _ .vmem, ⟨5, _⟩ => ⟨S2x512x256, .bf16⟩
  | .local _ .vmem, ⟨6, _⟩ => ⟨S2x512x256, .bf16⟩
  | .local _ .vmem, ⟨7, _⟩ => ⟨S2x512x256, .bf16⟩
  | .local _ .vmem, ⟨8, _⟩ => ⟨S2x512x256, .f32⟩
  | .local _ .vmem, ⟨9, _⟩ => ⟨S2x512x256, .f32⟩
  | .local _ .vmem, ⟨10, _⟩ => ⟨S2x512x256, .f32⟩
  | .local _ .vmem, ⟨11, _⟩ => ⟨S2x512x256, .f32⟩
  | .local _ .vmem, ⟨12, _⟩ => ⟨S2x512x256, .f32⟩
  | .local _ .vmem, ⟨13, _⟩ => ⟨S2x512x256, .f32⟩
  | .local _ .vmem, ⟨14, _⟩ => ⟨S512x512, .bf16⟩
  | .local _ .vmem, ⟨15, _⟩ => ⟨S512x512, .bf16⟩
  | .local _ .vmem, ⟨16, _⟩ => ⟨S1x512, .f32⟩
  | .local _ .vmem, ⟨17, _⟩ => ⟨S1024x1024, .bf16⟩
  | .local _ .vmem, ⟨18, _⟩ => ⟨S1x1024, .f32⟩
  | .local _ .vmem, ⟨19, _⟩ => ⟨S1024x4096, .bf16⟩
  | .local _ .vmem, ⟨20, _⟩ => ⟨S4096x1024, .bf16⟩
  | .local _ .vmem, ⟨21, _⟩ => ⟨S512x1024, .f32⟩
  | .local _ .vmem, ⟨22, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MlpRefIdeal.lean ====
abbrev S16384x1024 : Shape := ⟨2, ![16384, 1024]⟩
abbrev S2x16384x256 : Shape := ⟨3, ![2, 16384, 256]⟩
abbrev S16384x512 : Shape := ⟨2, ![16384, 512]⟩
abbrev S512 : Shape := ⟨1, ![512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S16384x2x256 : Shape := ⟨3, ![16384, 2, 256]⟩
abbrev S1x16384x512 : Shape := ⟨3, ![1, 16384, 512]⟩
abbrev S3x16384x512 : Shape := ⟨3, ![3, 16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S1x1024 : Shape := ⟨2, ![1, 1024]⟩
abbrev S16384x4096 : Shape := ⟨2, ![16384, 4096]⟩

abbrev nBuf : Space → Nat
  | .hbm => 91
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x16384x256, .bf16⟩
  | .hbm, ⟨2, _⟩ => ⟨S2x16384x256, .bf16⟩
  | .hbm, ⟨3, _⟩ => ⟨S2x16384x256, .bf16⟩
  | .hbm, ⟨4, _⟩ => ⟨S2x16384x256, .f32⟩
  | .hbm, ⟨5, _⟩ => ⟨S2x16384x256, .f32⟩
  | .hbm, ⟨6, _⟩ => ⟨S2x16384x256, .f32⟩
  | .hbm, ⟨7, _⟩ => ⟨S16384x512, .bf16⟩
  | .hbm, ⟨8, _⟩ => ⟨S512, .f32⟩
  | .hbm, ⟨9, _⟩ => ⟨S1024x1024, .f32⟩
  | .hbm, ⟨10, _⟩ => ⟨S1024, .f32⟩
  | .hbm, ⟨11, _⟩ => ⟨S1024x4096, .f32⟩
  | .hbm, ⟨12, _⟩ => ⟨S4096x1024, .f32⟩
  | .hbm, ⟨13, _⟩ => ⟨S16384x2x256, .f32⟩
  | .hbm, ⟨14, _⟩ => ⟨S16384x512, .f32⟩
  | .hbm, ⟨15, _⟩ => ⟨S16384x2x256, .f32⟩
  | .hbm, ⟨16, _⟩ => ⟨S16384x512, .f32⟩
  | .hbm, ⟨17, _⟩ => ⟨S16384x2x256, .f32⟩
  | .hbm, ⟨18, _⟩ => ⟨S16384x512, .f32⟩
  | .hbm, ⟨19, _⟩ => ⟨S1x16384x512, .f32⟩
  | .hbm, ⟨20, _⟩ => ⟨S1x16384x512, .f32⟩
  | .hbm, ⟨21, _⟩ => ⟨S1x16384x512, .f32⟩
  | .hbm, ⟨22, _⟩ => ⟨S3x16384x512, .f32⟩
  | .hbm, ⟨23, _⟩ => ⟨S_, .f32⟩
  | .hbm, ⟨24, _⟩ => ⟨S16384x512, .f32⟩
  | .hbm, ⟨25, _⟩ => ⟨S1x16384x512, .f32⟩
  | .hbm, ⟨26, _⟩ => ⟨S3x16384x512, .f32⟩
  | .hbm, ⟨27, _⟩ => ⟨S3x16384x512, .f32⟩
  | .hbm, ⟨28, _⟩ => ⟨S3x16384x512, .f32⟩
  | .hbm, ⟨29, _⟩ => ⟨S2x16384x256, .f32⟩
  | .hbm, ⟨30, _⟩ => ⟨S16384x2x256, .f32⟩
  | .hbm, ⟨31, _⟩ => ⟨S16384x512, .f32⟩
  | .hbm, ⟨32, _⟩ => ⟨S2x16384x256, .f32⟩
  | .hbm, ⟨33, _⟩ => ⟨S16384x2x256, .f32⟩
  | .hbm, ⟨34, _⟩ => ⟨S16384x512, .f32⟩
  | .hbm, ⟨35, _⟩ => ⟨S2x16384x256, .f32⟩
  | .hbm, ⟨36, _⟩ => ⟨S16384x2x256, .f32⟩
  | .hbm, ⟨37, _⟩ => ⟨S16384x512, .f32⟩
  | .hbm, ⟨38, _⟩ => ⟨S1x16384x512, .f32⟩
  | .hbm, ⟨39, _⟩ => ⟨S1x16384x512, .f32⟩
  | .hbm, ⟨40, _⟩ => ⟨S1x16384x512, .f32⟩
  | .hbm, ⟨41, _⟩ => ⟨S3x16384x512, .f32⟩
  | .hbm, ⟨42, _⟩ => ⟨S3x16384x512, .f32⟩
  | .hbm, ⟨43, _⟩ => ⟨S_, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x1, .f32⟩
  | .hbm, ⟨59, _⟩ => ⟨S16384x512, .f32⟩
  | .hbm, ⟨60, _⟩ => ⟨S16384x512, .f32⟩
  | .hbm, ⟨61, _⟩ => ⟨S1x512, .f32⟩
  | .hbm, ⟨62, _⟩ => ⟨S16384x512, .f32⟩
  | .hbm, ⟨63, _⟩ => ⟨S16384x512, .f32⟩
  | .hbm, ⟨64, _⟩ => ⟨S16384x512, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S_, .f32⟩
  | .hbm, ⟨70, _⟩ => ⟨S16384, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S_, .f32⟩
  | .hbm, ⟨76, _⟩ => ⟨S16384x1, .f32⟩
  | .hbm, ⟨77, _⟩ => ⟨S16384x1, .f32⟩
  | .hbm, ⟨78, _⟩ => ⟨S16384x1, .f32⟩
  | .hbm, ⟨79, _⟩ => ⟨S16384x1024, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S16384x4096, .f32⟩
  | .hbm, ⟨85, _⟩ => ⟨S_, .f32⟩
  | .hbm, ⟨86, _⟩ => ⟨S16384x4096, .f32⟩
  | .hbm, ⟨87, _⟩ => ⟨S16384x4096, .f32⟩
  | .hbm, ⟨88, _⟩ => ⟨S16384x4096, .f32⟩
  | .hbm, ⟨89, _⟩ => ⟨S16384x1024, .f32⟩
  | .hbm, ⟨90, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_0 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_v33 : Ref sig .tc := ⟨.hbm, 50, rfl⟩
abbrev main_v34 : Ref sig .tc := ⟨.hbm, 51, rfl⟩
abbrev main_cst_3 : Ref sig .tc := ⟨.hbm, 52, rfl⟩
abbrev main_v35 : Ref sig .tc := ⟨.hbm, 53, rfl⟩
abbrev main_v36 : Ref sig .tc := ⟨.hbm, 54, rfl⟩
abbrev main_cst_4 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_cst_6 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_call0_cst : Ref sig .tc := ⟨.hbm, 85, rfl⟩
abbrev main_call0_v0 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x2048 : Shape := ⟨2, ![1024, 2048]⟩
abbrev S64 : Shape := ⟨1, ![64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S1x64 : Shape := ⟨2, ![1, 64]⟩
abbrev S8x64 : Shape := ⟨2, ![8, 64]⟩
abbrev S2x16384x256 : Shape := ⟨3, ![2, 16384, 256]⟩
abbrev S16384x512 : Shape := ⟨2, ![16384, 512]⟩
abbrev S512x1024 : Shape := ⟨2, ![512, 1024]⟩
abbrev S2x512x256 : Shape := ⟨3, ![2, 512, 256]⟩
abbrev S512x2048 : Shape := ⟨2, ![512, 2048]⟩
abbrev S512x256 : Shape := ⟨2, ![512, 256]⟩
abbrev S1x512x256 : Shape := ⟨3, ![1, 512, 256]⟩

abbrev nBuf : Space → Nat
  | .hbm => 49
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S512, .i32⟩
  | .hbm, ⟨6, _⟩ => ⟨S_, .i32⟩
  | .hbm, ⟨7, _⟩ => ⟨S_, .i32⟩
  | .hbm, ⟨8, _⟩ => ⟨S512, .i32⟩
  | .hbm, ⟨9, _⟩ => ⟨S512, .i32⟩
  | .hbm, ⟨10, _⟩ => ⟨S512, .i32⟩
  | .hbm, ⟨11, _⟩ => ⟨S_, .i32⟩
  | .hbm, ⟨12, _⟩ => ⟨S512, .i32⟩
  | .hbm, ⟨13, _⟩ => ⟨S512, .i1⟩
  | .hbm, ⟨14, _⟩ => ⟨S512, .i32⟩
  | .hbm, ⟨15, _⟩ => ⟨S512, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S512x1, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S_, .f32⟩
  | .hbm, ⟨30, _⟩ => ⟨S_, .f32⟩
  | .hbm, ⟨31, _⟩ => ⟨S512x512, .f32⟩
  | .hbm, ⟨32, _⟩ => ⟨S512x512, .f32⟩
  | .hbm, ⟨33, _⟩ => ⟨S512x512, .f32⟩
  | .hbm, ⟨34, _⟩ => ⟨S512x512, .bf16⟩
  | .hbm, ⟨35, _⟩ => ⟨S1x1024, .f32⟩
  | .hbm, ⟨36, _⟩ => ⟨S1024x2048, .bf16⟩
  | .hbm, ⟨37, _⟩ => ⟨S1x64, .f32⟩
  | .hbm, ⟨38, _⟩ => ⟨S8x64, .f32⟩
  | .hbm, ⟨39, _⟩ => ⟨S512, .f32⟩
  | .hbm, ⟨40, _⟩ => ⟨S1x512, .f32⟩
  | .hbm, ⟨41, _⟩ => ⟨S1x64, .f32⟩
  | .hbm, ⟨42, _⟩ => ⟨S8x64, .f32⟩
  | .hbm, ⟨43, _⟩ => ⟨S512, .f32⟩
  | .hbm, ⟨44, _⟩ => ⟨S1x512, .f32⟩
  | .hbm, ⟨45, _⟩ => ⟨S2x16384x256, .bf16⟩
  | .hbm, ⟨46, _⟩ => ⟨S2x16384x256, .bf16⟩
  | .hbm, ⟨47, _⟩ => ⟨S2x16384x256, .bf16⟩
  | .hbm, ⟨48, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S2x512x256, .bf16⟩
  | .local _ .vmem, ⟨8, _⟩ => ⟨S2x512x256, .bf16⟩
  | .local _ .vmem, ⟨9, _⟩ => ⟨S2x512x256, .bf16⟩
  | .local _ .vmem, ⟨10, _⟩ => ⟨S2x512x256, .bf16⟩
  | .local _ .vmem, ⟨11, _⟩ => ⟨S2x512x256, .bf16⟩
  | .local _ .vmem, ⟨12, _⟩ => ⟨S2x512x256, .bf16⟩
  | .local _ .vmem, ⟨13, _⟩ => ⟨S512x512, .bf16⟩
  | .local _ .vmem, ⟨14, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19_0 : Ref sig .tc := ⟨.hbm, 45, rfl⟩
abbrev main_v19_1 : Ref sig .tc := ⟨.hbm, 46, rfl⟩
abbrev main_v19_2 : Ref sig .tc := ⟨.hbm, 47, rfl⟩
abbrev main_v19_3 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ProjRefIdeal.lean ====
abbrev S16384x1024 : Shape := ⟨2, ![16384, 1024]⟩
abbrev S1024 : Shape := ⟨1, ![1024]⟩
abbrev S1024x2048 : Shape := ⟨2, ![1024, 2048]⟩
abbrev S64 : Shape := ⟨1, ![64]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x512 : Shape := ⟨2, ![16384, 512]⟩
abbrev S16384x8x64 : Shape := ⟨3, ![16384, 8, 64]⟩
abbrev S16384x8 : Shape := ⟨2, ![16384, 8]⟩
abbrev S16384x8x1 : Shape := ⟨3, ![16384, 8, 1]⟩
abbrev S1x1x64 : Shape := ⟨3, ![1, 1, 64]⟩
abbrev S16384x2x256 : Shape := ⟨3, ![16384, 2, 256]⟩
abbrev S2x16384x256 : Shape := ⟨3, ![2, 16384, 256]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2048, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x2048, .f32⟩
  | .hbm, ⟨22, _⟩ => ⟨S16384x512, .f32⟩
  | .hbm, ⟨23, _⟩ => ⟨S16384x8x64, .f32⟩
  | .hbm, ⟨24, _⟩ => ⟨S16384x512, .f32⟩
  | .hbm, ⟨25, _⟩ => ⟨S16384x8x64, .f32⟩
  | .hbm, ⟨26, _⟩ => ⟨S16384x512, .f32⟩
  | .hbm, ⟨27, _⟩ => ⟨S16384x8x64, .f32⟩
  | .hbm, ⟨28, _⟩ => ⟨S16384x512, .f32⟩
  | .hbm, ⟨29, _⟩ => ⟨S16384x8x64, .f32⟩
  | .hbm, ⟨30, _⟩ => ⟨S_, .f32⟩
  | .hbm, ⟨31, _⟩ => ⟨S16384x8, .f32⟩
  | .hbm, ⟨32, _⟩ => ⟨S16384x8x1, .f32⟩
  | .hbm, ⟨33, _⟩ => ⟨S_, .f32⟩
  | .hbm, ⟨34, _⟩ => ⟨S16384x8x1, .f32⟩
  | .hbm, ⟨35, _⟩ => ⟨S16384x8x1, .f32⟩
  | .hbm, ⟨36, _⟩ => ⟨S_, .f32⟩
  | .hbm, ⟨37, _⟩ => ⟨S16384x8x1, .f32⟩
  | .hbm, ⟨38, _⟩ => ⟨S16384x8x1, .f32⟩
  | .hbm, ⟨39, _⟩ => ⟨S16384x8x1, .f32⟩
  | .hbm, ⟨40, _⟩ => ⟨S16384x8x64, .f32⟩
  | .hbm, ⟨41, _⟩ => ⟨S16384x8x64, .f32⟩
  | .hbm, ⟨42, _⟩ => ⟨S1x1x64, .f32⟩
  | .hbm, ⟨43, _⟩ => ⟨S16384x8x64, .f32⟩
  | .hbm, ⟨44, _⟩ => ⟨S16384x8x64, .f32⟩
  | .hbm, ⟨45, _⟩ => ⟨S_, .f32⟩
  | .hbm, ⟨46, _⟩ => ⟨S16384x8x64, .f32⟩
  | .hbm, ⟨47, _⟩ => ⟨S16384x8x64, .f32⟩
  | .hbm, ⟨48, _⟩ => ⟨S16384x8x64, .f32⟩
  | .hbm, ⟨49, _⟩ => ⟨S_, .f32⟩
  | .hbm, ⟨50, _⟩ => ⟨S16384x8, .f32⟩
  | .hbm, ⟨51, _⟩ => ⟨S16384x8x1, .f32⟩
  | .hbm, ⟨52, _⟩ => ⟨S_, .f32⟩
  | .hbm, ⟨53, _⟩ => ⟨S16384x8x1, .f32⟩
  | .hbm, ⟨54, _⟩ => ⟨S16384x8x1, .f32⟩
  | .hbm, ⟨55, _⟩ => ⟨S_, .f32⟩
  | .hbm, ⟨56, _⟩ => ⟨S16384x8x1, .f32⟩
  | .hbm, ⟨57, _⟩ => ⟨S16384x8x1, .f32⟩
  | .hbm, ⟨58, _⟩ => ⟨S16384x8x1, .f32⟩
  | .hbm, ⟨59, _⟩ => ⟨S16384x8x64, .f32⟩
  | .hbm, ⟨60, _⟩ => ⟨S16384x8x64, .f32⟩
  | .hbm, ⟨61, _⟩ => ⟨S1x1x64, .f32⟩
  | .hbm, ⟨62, _⟩ => ⟨S16384x8x64, .f32⟩
  | .hbm, ⟨63, _⟩ => ⟨S16384x8x64, .f32⟩
  | .hbm, ⟨64, _⟩ => ⟨S16384x2x256, .f32⟩
  | .hbm, ⟨65, _⟩ => ⟨S2x16384x256, .f32⟩
  | .hbm, ⟨66, _⟩ => ⟨S2x16384x256, .bf16⟩
  | .hbm, ⟨67, _⟩ => ⟨S16384x2x256, .f32⟩
  | .hbm, ⟨68, _⟩ => ⟨S2x16384x256, .f32⟩
  | .hbm, ⟨69, _⟩ => ⟨S2x16384x256, .bf16⟩
  | .hbm, ⟨70, _⟩ => ⟨S16384x2x256, .f32⟩
  | .hbm, ⟨71, _⟩ => ⟨S2x16384x256, .f32⟩
  | .hbm, ⟨72, _⟩ => ⟨S2x16384x256, .bf16⟩
  | .hbm, ⟨73, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Proof.AttnBlock.lean ====
module

public import proofs.«01_k».proof.Proof.Gen.Attn4Ideal.Skeleton
public import Idealize.ShloMosaic.Lib.Pointwise
public import Idealize.ShloMosaic.Lib.Pipeline.Value
public import Idealize.ShloMosaic.Lib.Pipeline.FrameBody

@[expose] public section

set_option maxRecDepth 16384

noncomputable section

namespace Cert.AttnBlock

open Cert.Attn4Ideal Cert.Attn4Ideal.Gen Idealize.ShloMosaic Idealize.ShloMosaic.TcCoe

variable {F : FTy → Type} [FloatOps F]

/-- The lane numbers of a 128 × 256 block. -/
abbrev lanes : IVec S128x256 32 := iota .tc S128x256 32 [1] iota_S128x256_d1_w32
/-- The lanes of heads 0, 1, 2 and 3 of a block. -/
abbrev lanes0 : IVec S128x256 1 := k0_pay7
abbrev lanes1 : IVec S128x256 1 := k0_pay10 lanes k0_pay8 k0_pay9
abbrev lanes2 : IVec S128x256 1 := k0_pay11 lanes
abbrev lanes3 : IVec S128x256 1 := k0_pay12 lanes

/-- Four blocks of 128 rows, one under the other. -/
def stack4 (x0 x1 x2 x3 : FVec F S128x256 .bf16) : FVec F S512x256 .bf16 :=
  concatenate S512x256 0 [⟨S128x256, x0⟩, ⟨S128x256, x1⟩, ⟨S128x256, x2⟩, ⟨S128x256, x3⟩] concatenates_S128x256_S128x256_S128x256_S128x256_S512x256_d0

/-- The queries once per head, the other heads' lanes set to zero. -/
def queries (q : Vec F S1x128x256 .bf16) : FVec F S512x256 .bf16 :=
  stack4 (select lanes0 (shapeCast S128x256 q shapeCasts_S1x128x256_S128x256) (broadcast S128x256 (Scalar.ofBits .bf16 0x0000#16)))
    (select lanes1 (shapeCast S128x256 q shapeCasts_S1x128x256_S128x256) (broadcast S128x256 (Scalar.ofBits .bf16 0x0000#16)))
    (select lanes2 (shapeCast S128x256 q shapeCasts_S1x128x256_S128x256) (broadcast S128x256 (Scalar.ofBits .bf16 0x0000#16)))
    (select lanes3 (shapeCast S128x256 q shapeCasts_S1x128x256_S128x256) (broadcast S128x256 (Scalar.ofBits .bf16 0x0000#16)))

/-- One head's scores against the 256 keys, the bias added. -/
def scores (off : Fin 2 → Nat) (h : S512x256.Slices off S128x256) (bias : FVec F S128x256 .f32) (q : Vec F S1x128x256 .bf16)
    (kw : Vec F S256x256 .bf16) : FVec F S128x256 .f32 :=
  addf (extractStridedSlice S128x256 off (matmul dot_S512x256_S256x256_S512x256_1_1_0_0_n_n none (queries q) kw (constant S512x256 .f32 0x00000000#32)) h) bias

/-- The largest entry of each row. -/
def rowMax (s : FVec F S128x256 .f32) : FVec F S128x1 .f32 :=
  shapeCast S128x1 (multiReduction .maximumf [1] S128 s 0xFF800000#32 reduces_S128x256_S128 (.inl rfl) rfl) shapeCasts_S128_S128x1

/-- The exponentials of a row's entries less the row's largest. -/
def rowExp (s : FVec F S128x256 .f32) : FVec F S128x256 .f32 := exp (subf s (broadcastTo S128x256 (rowMax s) broadcasts_S128x1_S128x256))

/-- The sum of a row's exponentials. -/
def rowSum (s : FVec F S128x256 .f32) : FVec F S128x1 .f32 :=
  shapeCast S128x1 (multiReduction .add [1] S128 (rowExp s) 0x00000000#32 reduces_S128x256_S128 (.inl rfl) rfl) shapeCasts_S128_S128x1

/-- The four heads' exponentials times the values. -/
def weighted (s0 s1 s2 s3 : FVec F S128x256 .f32) (vw : Vec F S256x256 .bf16) : FVec F S512x256 .f32 :=
  matmul dot_S512x256_S256x256_S512x256_1_0_0_1_n_n none
    (stack4 (truncf .bf16 (rowExp s0) bitsLt_bf16_f32) (truncf .bf16 (rowExp s1) bitsLt_bf16_f32)
      (truncf .bf16 (rowExp s2) bitsLt_bf16_f32) (truncf .bf16 (rowExp s3) bitsLt_bf16_f32)) vw (constant S512x256 .f32 0x00000000#32)

/-- Each head's array on that head's lanes. -/
def pick (x0 x1 x2 x3 : FVec F S128x256 .f32) : FVec F S128x256 .f32 :=
  select lanes3 x3 (select lanes2 x2 (select lanes1 x1 (select lanes0 x0 (broadcast S128x256 (Scalar.ofBits .f32 0x00000000#32)))))

/-- A block's attention output from its four heads' scores. -/
def outOf (s0 s1 s2 s3 : FVec F S128x256 .f32) (vw : Vec F S256x256 .bf16) : FVec F S1x128x256 .bf16 :=
  shapeCast S1x128x256 (truncf .bf16 (pick
      (divf (extractStridedSlice S128x256 ![0, 0] (weighted s0 s1 s2 s3 vw) slices_S512x256_o0_0_S128x256) (broadcastTo S128x256 (rowSum s0) broadcasts_S128x1_S128x256))
      (divf (extractStridedSlice S128x256 ![128, 0] (weighted s0 s1 s2 s3 vw) slices_S512x256_o128_0_S128x256) (broadcastTo S128x256 (rowSum s1) broadcasts_S128x1_S128x256))
      (divf (extractStridedSlice S128x256 ![256, 0] (weighted s0 s1 s2 s3 vw) slices_S512x256_o256_0_S128x256) (broadcastTo S128x256 (rowSum s2) broadcasts_S128x1_S128x256))
      (divf (extractStridedSlice S128x256 ![384, 0] (weighted s0 s1 s2 s3 vw) slices_S512x256_o384_0_S128x256) (broadcastTo S128x256 (rowSum s3) broadcasts_S128x1_S128x256)))
    bitsLt_bf16_f32) shapeCasts_S128x256_S1x128x256

/-- A head's largest score plus the logarithm of its sum, spread over the lanes. -/
def lseOf1 (s : FVec F S128x256 .f32) : FVec F S128x256 .f32 :=
  broadcastTo S128x256 (shapeCast S128x1 (addf (rowMax s) (log (rowSum s))) shapeCasts_S128x1_S128x1) broadcasts_S128x1_S128x256

/-- A block's log-sum-exp from its four heads' scores. -/
def lseOf (s0 s1 s2 s3 : FVec F S128x256 .f32) : FVec F S1x128x256 .f32 :=
  shapeCast S1x128x256 (pick (lseOf1 s0) (lseOf1 s1) (lseOf1 s2) (lseOf1 s3)) shapeCasts_S128x256_S1x128x256

abbrev scores0 (bias : FVec F S128x256 .f32) (q : Vec F S1x128x256 .bf16) (kw : Vec F S256x256 .bf16) := scores ![0, 0] slices_S512x256_o0_0_S128x256 bias q kw
abbrev scores1 (bias : FVec F S128x256 .f32) (q : Vec F S1x128x256 .bf16) (kw : Vec F S256x256 .bf16) := scores ![128, 0] slices_S512x256_o128_0_S128x256 bias q kw
abbrev scores2 (bias : FVec F S128x256 .f32) (q : Vec F S1x128x256 .bf16) (kw : Vec F S256x256 .bf16) := scores ![256, 0] slices_S512x256_o256_0_S128x256 bias q kw
abbrev scores3 (bias : FVec F S128x256 .f32) (q : Vec F S1x128x256 .bf16) (kw : Vec F S256x256 .bf16) := scores ![384, 0] slices_S512x256_o384_0_S128x256 bias q kw

/-- What the kernel stores of a block's attention output: from the bias, the block's queries, and its 256 keys and values. -/
def out (bias : FVec F S128x256 .f32) (q : Vec F S1x128x256 .bf16) (kw vw : Vec F S256x256 .bf16) : FVec F S1x128x256 .bf16 :=
  outOf (scores0 bias q kw) (scores1 bias q kw) (scores2 bias q kw) (scores3 bias q kw) vw

/-- What the kernel stores of a block's log-sum-exp. -/
def lse (bias : FVec F S128x256 .f32) (q : Vec F S1x128x256 .bf16) (kw : Vec F S256x256 .bf16) : FVec F S1x128x256 .f32 :=
  lseOf (scores0 bias q kw) (scores1 bias q kw) (scores2 bias q kw) (scores3 bias q kw)

/-! ## The lanes of each head -/

theorem cmp_lanes0 : ∀ l : Fin 256, IntOp.andi (IntOp.cmpi .sge (BitVec.ofNat 32 l.val) 0#32) (IntOp.cmpi .slt (BitVec.ofNat 32 l.val) 64#32) = if l.val / 64 = 0 then 1#1 else 0#1 := by decide +kernel
theorem cmp_lanes1 : ∀ l : Fin 256, IntOp.andi (IntOp.cmpi .sge (BitVec.ofNat 32 l.val) 64#32) (IntOp.cmpi .slt (BitVec.ofNat 32 l.val) 128#32) = if l.val / 64 = 1 then 1#1 else 0#1 := by decide +kernel
theorem cmp_lanes2 : ∀ l : Fin 256, IntOp.andi (IntOp.cmpi .sge (BitVec.ofNat 32 l.val) 128#32) (IntOp.cmpi .slt (BitVec.ofNat 32 l.val) 192#32) = if l.val / 64 = 2 then 1#1 else 0#1 := by decide +kernel
theorem cmp_lanes3 : ∀ l : Fin 256, IntOp.andi (IntOp.cmpi .sge (BitVec.ofNat 32 l.val) 192#32) (IntOp.cmpi .slt (BitVec.ofNat 32 l.val) 256#32) = if l.val / 64 = 3 then 1#1 else 0#1 := by decide +kernel

theorem lanes0_apply (r : Fin 128) (l : Fin 256) : lanes0 (ix2 r l) = if l.val / 64 = 0 then 1#1 else 0#1 := by
  unfold lanes0 k0_pay7; pointwise; exact cmp_lanes0 l
theorem lanes1_apply (r : Fin 128) (l : Fin 256) : lanes1 (ix2 r l) = if l.val / 64 = 1 then 1#1 else 0#1 := by
  unfold lanes1 k0_pay10 k0_pay8 k0_pay9 lanes; pointwise; exact cmp_lanes1 l
theorem lanes2_apply (r : Fin 128) (l : Fin 256) : lanes2 (ix2 r l) = if l.val / 64 = 2 then 1#1 else 0#1 := by
  unfold lanes2 k0_pay11 lanes; pointwise; exact cmp_lanes2 l
theorem lanes3_apply (r : Fin 128) (l : Fin 256) : lanes3 (ix2 r l) = if l.val / 64 = 3 then 1#1 else 0#1 := by
  unfold lanes3 k0_pay12 lanes; pointwise; exact cmp_lanes3 l

/-! ## One row of attention -/

/-- The largest of 256 scores. -/
def rMax (s : Fin 256 → EReal) : EReal := Finset.univ.fold max ⊥ s

/-- The softmax of 256 scores against 256 values: the exponentials less the largest score, weighted and divided by their sum. -/
def rOut (s v : Fin 256 → EReal) : EReal :=
  Ideal.div (∑ k, Ideal.exp (s k - rMax s) * v k) (∑ k, Ideal.exp (s k - rMax s))

/-- The logarithm of the sum of the exponentials of 256 scores. -/
def rLse (s : Fin 256 → EReal) : EReal := rMax s + Ideal.log (∑ k, Ideal.exp (s k - rMax s))

/-- A masked key's value does not matter. -/
theorem rOut_congr (s v v' : Fin 256 → EReal) (h : ∀ k, s k ≠ ⊥ → v k = v' k) : rOut s v = rOut s v' := by
  unfold rOut
  congr 1
  refine Finset.sum_congr rfl fun k _ => ?_
  by_cases hk : s k = ⊥
  · rw [hk, EReal.bot_sub, show Ideal.exp ⊥ = 0 from rfl, zero_mul, zero_mul]
  · rw [h k hk]

/-! ## A block, read at a row and a lane -/

theorem ofBits_neg_inf : Ideal.ofBits FTy.f32 0xFF800000#32 = ⊥ := by simp [Ideal.ofBits, Ideal.ieee]

theorem rowMax_apply (s : FVec Ideal S128x256 .f32) (r : Fin 128) : rowMax s (ix2 r 0) = rMax fun k => s (ix2 r k) := by
  pointwise [rowMax, rMax, ofBits_neg_inf]

theorem rowExp_apply (s : FVec Ideal S128x256 .f32) (r : Fin 128) (k : Fin 256) :
    rowExp s (ix2 r k) = Ideal.exp (s (ix2 r k) - rMax fun k => s (ix2 r k)) := by
  pointwise [rowExp, rowMax_apply]

theorem rowSum_apply (s : FVec Ideal S128x256 .f32) (r : Fin 128) :
    rowSum s (ix2 r 0) = ∑ k : Fin 256, Ideal.exp (s (ix2 r k) - rMax fun k => s (ix2 r k)) := by
  pointwise [rowSum, rowExp_apply]

theorem pick_apply (x0 x1 x2 x3 : FVec Ideal S128x256 .f32) (r : Fin 128) (l : Fin 256) :
    pick x0 x1 x2 x3 (ix2 r l) = if l.val / 64 = 0 then x0 (ix2 r l) else if l.val / 64 = 1 then x1 (ix2 r l)
      else if l.val / 64 = 2 then x2 (ix2 r l) else x3 (ix2 r l) := by
  pointwise [pick, lanes0_apply, lanes1_apply, lanes2_apply, lanes3_apply]
  unfold Scalar.select
  have := l.isLt
  obtain h | h | h | h : l.val / 64 = 0 ∨ l.val / 64 = 1 ∨ l.val / 64 = 2 ∨ l.val / 64 = 3 := by omega
  all_goals simp [h]

/-- A head's score: its lanes of the query against its lanes of the key, and the bias. -/
def rScore (h : Nat) (q : Fin 256 → EReal) (kw : Fin 256 → Fin 256 → EReal) (b : Fin 256 → EReal) (k : Fin 256) : EReal :=
  (∑ l : Fin 256, (if l.val / 64 = h then q l else 0) * kw k l) + b k

theorem sel (p : Prop) [Decidable p] (a b : EReal) : Scalar.select (if p then 1#1 else 0#1) a b = if p then a else b := by
  by_cases h : p <;> simp [Scalar.select, h]

section
variable (x0 x1 x2 x3 : FVec Ideal S128x256 .bf16) (r : Fin 128) (k : Fin 256)

theorem stack4_0 (h : r.val < 512) : stack4 x0 x1 x2 x3 (ix2 ⟨r.val, h⟩ k) = x0 (ix2 r k) := by
  have h0 : r.val < 128 := r.isLt
  pointwise [stack4, h0]
theorem stack4_1 (h : 128 + r.val < 512) : stack4 x0 x1 x2 x3 (ix2 ⟨128 + r.val, h⟩ k) = x1 (ix2 r k) := by
  have h0 : ¬ 128 + r.val < 128 := by omega
  have h1 : 128 + r.val - 128 = r.val := by omega
  have h2 : r.val < 128 := r.isLt
  pointwise [stack4, h0, h1, h2]
theorem stack4_2 (h : 256 + r.val < 512) : stack4 x0 x1 x2 x3 (ix2 ⟨256 + r.val, h⟩ k) = x2 (ix2 r k) := by
  have h0 : ¬ 256 + r.val < 128 := by omega
  have h1 : ¬ 256 + r.val - 128 < 128 := by omega
  have h2 : 256 + r.val - 128 - 128 = r.val := by omega
  have h3 : r.val < 128 := r.isLt
  pointwise [stack4, h0, h1, h2, h3]
theorem stack4_3 (h : 384 + r.val < 512) : stack4 x0 x1 x2 x3 (ix2 ⟨384 + r.val, h⟩ k) = x3 (ix2 r k) := by
  have h0 : ¬ 384 + r.val < 128 := by omega
  have h1 : ¬ 384 + r.val - 128 < 128 := by omega
  have h2 : ¬ 384 + r.val - 128 - 128 < 128 := by omega
  have h3 : 384 + r.val - 128 - 128 - 128 = r.val := by omega
  pointwise [stack4, h0, h1, h2, h3]
end

section
variable (bias : FVec Ideal S128x256 .f32) (q : FVec Ideal S1x128x256 .bf16) (kw vw : FVec Ideal S256x256 .bf16) (r : Fin 128)

theorem scores0_apply (k : Fin 256) : scores0 bias q kw (ix2 r k)
    = rScore 0 (fun l => q (ix3 0 r l)) (fun k l => kw (ix2 k l)) (fun k => bias (ix2 r k)) k := by
  pointwise [scores0, scores, queries, stack4_0, stack4_1, stack4_2, stack4_3, dot_S512x256_S256x256_S512x256_1_1_0_0_n_n, lanes0_apply, sel, rScore]
theorem scores1_apply (k : Fin 256) : scores1 bias q kw (ix2 r k)
    = rScore 1 (fun l => q (ix3 0 r l)) (fun k l => kw (ix2 k l)) (fun k => bias (ix2 r k)) k := by
  pointwise [scores1, scores, queries, stack4_0, stack4_1, stack4_2, stack4_3, dot_S512x256_S256x256_S512x256_1_1_0_0_n_n, lanes1_apply, sel, rScore]
theorem scores2_apply (k : Fin 256) : scores2 bias q kw (ix2 r k)
    = rScore 2 (fun l => q (ix3 0 r l)) (fun k l => kw (ix2 k l)) (fun k => bias (ix2 r k)) k := by
  pointwise [scores2, scores, queries, stack4_0, stack4_1, stack4_2, stack4_3, dot_S512x256_S256x256_S512x256_1_1_0_0_n_n, lanes2_apply, sel, rScore]
theorem scores3_apply (k : Fin 256) : scores3 bias q kw (ix2 r k)
    = rScore 3 (fun l => q (ix3 0 r l)) (fun k l => kw (ix2 k l)) (fun k => bias (ix2 r k)) k := by
  pointwise [scores3, scores, queries, stack4_0, stack4_1, stack4_2, stack4_3, dot_S512x256_S256x256_S512x256_1_1_0_0_n_n, lanes3_apply, sel, rScore]

/-- A block's attention output at a row and a lane: the softmax row of the lane's head. -/
theorem out_apply (l : Fin 256) : out bias q kw vw (ix3 0 r l)
    = rOut (rScore (l.val / 64) (fun l => q (ix3 0 r l)) (fun k l => kw (ix2 k l)) (fun k => bias (ix2 r k))) (fun k => vw (ix2 k l)) := by
  pointwise [out, outOf, weighted, stack4_0, stack4_1, stack4_2, stack4_3, dot_S512x256_S256x256_S512x256_1_0_0_1_n_n, pick_apply, rowSum_apply, rowExp_apply,
    scores0_apply, scores1_apply, scores2_apply, scores3_apply]
  have := l.isLt
  obtain h | h | h | h : l.val / 64 = 0 ∨ l.val / 64 = 1 ∨ l.val / 64 = 2 ∨ l.val / 64 = 3 := by omega
  all_goals rw [h]; simp only [Nat.reduceEqDiff, if_true, if_false]; rfl

/-- A block's log-sum-exp at a row and a lane. -/
theorem lse_apply (l : Fin 256) : lse bias q kw (ix3 0 r l)
    = rLse (rScore (l.val / 64) (fun l => q (ix3 0 r l)) (fun k l => kw (ix2 k l)) (fun k => bias (ix2 r k))) := by
  pointwise [lse, lseOf, lseOf1, pick_apply, rowSum_apply, rowMax_apply,
    scores0_apply, scores1_apply, scores2_apply, scores3_apply]
  have := l.isLt
  obtain h | h | h | h : l.val / 64 = 0 ∨ l.val / 64 = 1 ∨ l.val / 64 = 2 ∨ l.val / 64 = 3 := by omega
  all_goals rw [h]; simp only [Nat.reduceEqDiff, if_true, if_false]; rfl
end

end Cert.AttnBlock
-- ==== Proof.AttnTile.lean ====
module

public import proofs.«01_k».proof.Proof.AttnBlock
public import Idealize.ShloMosaic.Lib.Pointwise
public import Idealize.ShloMosaic.Lib.WordCmp
public import Idealize.ShloMosaic.Lib.Pipeline.Value
public import Idealize.ShloMosaic.Lib.Pipeline.FrameBody

@[expose] public section

set_option maxRecDepth 16384

noncomputable section

namespace Cert.AttnBlock

open Cert.Attn4Ideal Cert.Attn4Ideal.Gen Idealize.ShloMosaic Idealize.ShloMosaic.TcCoe

variable {F : FTy → Type} [FloatOps F]

/-! ## The eight blocks of a tile, and the two parts of the key and value buffers -/

section
variable {sig : RefSig} {κ : Kind} {sp : Space}

theorem hz3 : (![0, 0, 0] : Fin 3 → Nat) = fun _ => 0 := funext fun a => by fin_cases a <;> rfl

theorem inbO (b : Fin 8) : ∀ a, (![0, 128 * b.val, 0] : Fin 3 → Nat) a + S1x128x256.size a ≤ S1x1024x256.size a := by
  have := b.isLt
  intro a; fin_cases a <;> simp [S1x128x256, S1x1024x256]; omega

theorem inbK (b : Fin 8) : ∀ a, (![128 * b.val, 0] : Fin 2 → Nat) a + S256x256.size a ≤ S1152x256.size a := by
  have := b.isLt
  intro a; fin_cases a <;> simp [S256x256, S1152x256]; omega

/-- The eight stores of a tile, the last first: block `b` at rows `128 b` and on. -/
def pieces {e : EltTy} (P : Fin 8 → Vec F S1x128x256 e) : List (View.Piece (Elt F) S1x1024x256 e) :=
  [⟨Rect.unit ![0, 128 * (7 : Fin 8).val, 0] S1x128x256.size (inbO 7), P 7⟩, ⟨Rect.unit ![0, 128 * (6 : Fin 8).val, 0] S1x128x256.size (inbO 6), P 6⟩,
   ⟨Rect.unit ![0, 128 * (5 : Fin 8).val, 0] S1x128x256.size (inbO 5), P 5⟩, ⟨Rect.unit ![0, 128 * (4 : Fin 8).val, 0] S1x128x256.size (inbO 4), P 4⟩,
   ⟨Rect.unit ![0, 128 * (3 : Fin 8).val, 0] S1x128x256.size (inbO 3), P 3⟩, ⟨Rect.unit ![0, 128 * (2 : Fin 8).val, 0] S1x128x256.size (inbO 2), P 2⟩,
   ⟨Rect.unit ![0, 128 * (1 : Fin 8).val, 0] S1x128x256.size (inbO 1), P 1⟩, ⟨Rect.unit ![0, 128 * (0 : Fin 8).val, 0] S1x128x256.size (inbO 0), P 0⟩]

/-- What the eight stores leave at a row: the row's block there. -/
theorem canon_pieces {e : EltTy} (P : Fin 8 → Vec F S1x128x256 e) (n : Fin 1024) (l : Fin 256) :
    View.canon (pieces P) (ix3 0 n l) = P ⟨n.val / 128, by omega⟩ (ix3 0 ⟨n.val % 128, by omega⟩ l) := by
  have hit : ∀ (b : Fin 8) (L : List (View.Piece (Elt F) S1x1024x256 e)), n.val / 128 = b.val →
      View.canon ((⟨Rect.unit ![0, 128 * b.val, 0] S1x128x256.size (inbO b), P b⟩ : View.Piece (Elt F) S1x1024x256 e) :: L) (ix3 0 n l)
        = P ⟨n.val / 128, by omega⟩ (ix3 0 ⟨n.val % 128, by omega⟩ l) := by
    intro b L hb
    have hbe : (⟨n.val / 128, by omega⟩ : Fin 8) = b := Fin.ext hb
    rw [hbe]
    have e : (ix3 0 n l : S1x1024x256.Idx)
        = (Rect.unit (s := S1x1024x256) ![0, 128 * b.val, 0] S1x128x256.size (inbO b)).emb (ix3 0 ⟨n.val % 128, by omega⟩ l) := by
      funext a; apply Fin.ext
      fin_cases a
      · rfl
      · show n.val = 128 * b.val + 1 * (n.val % 128); omega
      · show l.val = 0 + 1 * l.val; omega
    rw [e]
    exact View.canon_cons_emb (Rect.unit (s := S1x1024x256) ![0, 128 * b.val, 0] S1x128x256.size (inbO b)) (P b) L _
  have miss : ∀ (b : Fin 8) (L : List (View.Piece (Elt F) S1x1024x256 e)), n.val / 128 ≠ b.val →
      View.canon ((⟨Rect.unit ![0, 128 * b.val, 0] S1x128x256.size (inbO b), P b⟩ : View.Piece (Elt F) S1x1024x256 e) :: L) (ix3 0 n l)
        = View.canon L (ix3 0 n l) := by
    intro b L hb
    refine View.canon_cons_of_not_mem _ _ fun hm => hb ?_
    have h1 : 128 * b.val ≤ n.val ∧ n.val < 128 * b.val + 128 := (Rect.mem_set_unit (inb := inbO b).mp hm) 1
    omega
  unfold pieces
  by_cases h7 : n.val / 128 = 7; · exact hit 7 _ h7
  rw [miss 7 _ h7]
  by_cases h6 : n.val / 128 = 6; · exact hit 6 _ h6
  rw [miss 6 _ h6]
  by_cases h5 : n.val / 128 = 5; · exact hit 5 _ h5
  rw [miss 5 _ h5]
  by_cases h4 : n.val / 128 = 4; · exact hit 4 _ h4
  rw [miss 4 _ h4]
  by_cases h3 : n.val / 128 = 3; · exact hit 3 _ h3
  rw [miss 3 _ h3]
  by_cases h2 : n.val / 128 = 2; · exact hit 2 _ h2
  rw [miss 2 _ h2]
  by_cases h1 : n.val / 128 = 1; · exact hit 1 _ h1
  rw [miss 1 _ h1]
  exact hit 0 _ (by have := n.isLt; show n.val / 128 = 0; omega)

/-- What a buffer of keys or values is loaded with: the current tile's rows at 128 and on, and before them the previous 128 rows. -/
def bufPieces (prev : Vec F S1x128x256 .bf16) (cur : Vec F S1x1024x256 .bf16) : List (View.Piece (Elt F) S1152x256 .bf16) :=
  [⟨Rect.unit ![128, 0] S1024x256.size inb_S1152x256_S1024x256_128_0, k0_pay4 (View.ld cur (Rect.unit ![0, 0, 0] ![1, 1024, 256] inb_S1x1024x256_S1x1024x256_0_0_0))⟩,
   ⟨Rect.unit ![0, 0] S128x256.size inb_S1152x256_S128x256_0_0, k0_pay3 (View.ld prev (Rect.unit ![0, 0, 0] ![1, 128, 256] inb_S1x128x256_S1x128x256_0_0_0))⟩]

/-- The 256 rows of a buffer that block `b` reads. -/
def window (v : View sig κ sp S1152x256 .bf16) (prev : Vec F S1x128x256 .bf16) (cur : Vec F S1x1024x256 .bf16) (b : Fin 8) : Vec F S256x256 .bf16 :=
  v.readCov (bufPieces prev cur) (Rect.unit (s := S1152x256) ![128 * b.val, 0] S256x256.size (inbK b)).toLoadRect

/-- A buffer at a row. -/
def row (prev : Vec F S1x128x256 .bf16) (cur : Vec F S1x1024x256 .bf16) (i : Nat) (l : Fin 256) : Elt F .bf16 :=
  if h : i < 128 then prev (ix3 0 ⟨i, h⟩ l) else cur (ix3 0 ⟨(i - 128) % 1024, Nat.mod_lt _ (by decide)⟩ l)

theorem canon_bufPieces (prev : Vec F S1x128x256 .bf16) (cur : Vec F S1x1024x256 .bf16) (i : Fin 1152) (l : Fin 256) :
    View.canon (bufPieces prev cur) (ix2 i l) = row prev cur i.val l := by
  have hi := i.isLt
  unfold bufPieces row
  rw [View.ld_unit_zero hz3, View.ld_unit_zero hz3]
  by_cases h : i.val < 128
  · rw [dif_pos h, View.canon_cons_of_not_mem _ _ (fun hm => by
      have h1 : 128 ≤ i.val ∧ i.val < 128 + 1024 := (Rect.mem_set_unit (inb := inb_S1152x256_S1024x256_128_0).mp hm) 0
      omega)]
    have e : (ix2 i l : S1152x256.Idx) = (Rect.unit (s := S1152x256) ![0, 0] S128x256.size inb_S1152x256_S128x256_0_0).emb (ix2 ⟨i.val, h⟩ l) := by
      funext a; apply Fin.ext
      fin_cases a
      · show i.val = 0 + 1 * i.val; omega
      · show l.val = 0 + 1 * l.val; omega
    rw [e]
    refine (View.canon_cons_emb (Val := Elt F) (e := .bf16) (Rect.unit (s := S1152x256) ![0, 0] S128x256.size inb_S1152x256_S128x256_0_0) (k0_pay3 prev) [] _).trans ?_
    pointwise [k0_pay3]
  · rw [dif_neg h]
    have e : (ix2 i l : S1152x256.Idx) = (Rect.unit (s := S1152x256) ![128, 0] S1024x256.size inb_S1152x256_S1024x256_128_0).emb (ix2 ⟨(i.val - 128) % 1024, by omega⟩ l) := by
      funext a; apply Fin.ext
      fin_cases a
      · show i.val = 128 + 1 * ((i.val - 128) % 1024); omega
      · show l.val = 0 + 1 * l.val; omega
    rw [e]
    refine (View.canon_cons_emb (Val := Elt F) (e := .bf16) (Rect.unit (s := S1152x256) ![128, 0] S1024x256.size inb_S1152x256_S1024x256_128_0) (k0_pay4 cur) _ _).trans ?_
    pointwise [k0_pay4]

/-- Block `b`'s window at a key. -/
theorem window_apply (v : View sig κ sp S1152x256 .bf16) (prev : Vec F S1x128x256 .bf16) (cur : Vec F S1x1024x256 .bf16) (b : Fin 8) (k l : Fin 256) :
    window v prev cur b (ix2 k l) = row prev cur (128 * b.val + k.val) l := by
  unfold window
  rw [View.readCov_eq_canon', ← canon_bufPieces prev cur ⟨128 * b.val + k.val, by omega⟩ l]
  refine congrArg _ ?_
  funext a; apply Fin.ext
  fin_cases a
  · show 128 * b.val + 1 * k.val = 128 * b.val + k.val; omega
  · show 0 + 1 * l.val = l.val; omega

/-- Block `b`'s bias: the first block of a tile has its own. -/
def biasOf (first band : FVec F S128x256 .f32) (b : Fin 8) : FVec F S128x256 .f32 := if b.val = 0 then first else band

/-- Block `b`'s queries. -/
def queryRows (x : Vec F S1x1024x256 .bf16) (b : Fin 8) : Vec F S1x128x256 .bf16 := View.ld x (Rect.unit ![0, 128 * b.val, 0] S1x128x256.size (inbO b))

/-- A tile's attention output: eight blocks. -/
def tileOut (v w : View sig κ sp S1152x256 .bf16) (first band : FVec F S128x256 .f32) (x0 : Vec F S1x1024x256 .bf16) (x1 : Vec F S1x1024x256 .bf16)
    (x2 : Vec F S1x128x256 .bf16) (x3 : Vec F S1x1024x256 .bf16) (x4 : Vec F S1x128x256 .bf16) : Vec F S1x1024x256 .bf16 :=
  View.canon (pieces fun b => out (biasOf first band b) (queryRows x0 b) (window v x2 x1 b) (window w x4 x3 b))

/-- A tile's log-sum-exp: eight blocks. -/
def tileLse (v : View sig κ sp S1152x256 .bf16) (first band : FVec F S128x256 .f32) (x0 : Vec F S1x1024x256 .bf16) (x1 : Vec F S1x1024x256 .bf16)
    (x2 : Vec F S1x128x256 .bf16) : Vec F S1x1024x256 .f32 :=
  View.canon (pieces fun b => lse (biasOf first band b) (queryRows x0 b) (window v x2 x1 b))

end
/-! ## The two biases: zero inside a query's band, −∞ outside -/

theorem mask_named : Named.named (F := Ideal) Cert.Attn4Ideal.κ "mask" (φ := .f32) 0xF149F2CA#32 = (⊥ : EReal) :=
  IdealRules.named_const.ideal_named_scalar _ _ _ _ rfl

theorem in_band (r : Fin 128) (k : Fin 256) :
    k0_pay13 (ix2 r k) = if r.val ≤ k.val ∧ k.val ≤ r.val + 128 then 1#1 else 0#1 := by
  have hr := r.isLt
  have hk := k.isLt
  pointwise [k0_pay13]
  have e : IntOp.addi (BitVec.ofNat 32 r.val) 128#32 = BitVec.ofNat 32 (r.val + 128) := by
    rw [BitVec.ofNat_add]; rfl
  rw [e, WordCmp.cmpi_sge_ofNat (by omega) (by omega), WordCmp.cmpi_sle_ofNat (by omega) (by omega)]
  by_cases h1 : r.val ≤ k.val <;> by_cases h2 : k.val ≤ r.val + 128 <;> simp [h1, h2, IntOp.andi]

theorem band_apply (r : Fin 128) (k : Fin 256) :
    k0_pay14 (F := Ideal) (ix2 r k) = (if r.val ≤ k.val ∧ k.val ≤ r.val + 128 then 0 else ⊥ : EReal) := by
  pointwise [k0_pay14, in_band, sel, mask_named]

theorem first_apply (j : Nat) (hj : j < 128) (r : Fin 128) (k : Fin 256) :
    k0_pay15 (F := Ideal) (BitVec.ofNat 32 j) (ix2 r k)
      = (if (r.val ≤ k.val ∧ k.val ≤ r.val + 128) ∧ (128 ≤ k.val ∨ j ≠ 0) then 0 else ⊥ : EReal) := by
  have hk := k.isLt
  pointwise [k0_pay15, in_band, mask_named]
  have e : Scalar.cmpi .eq (BitVec.ofNat 32 j) 0#32 = BitVec.ofBool (decide (j = 0)) :=
    WordCmp.cmpi_eq_ofNat (w := 32) (b := 0) (by omega) (by omega)
  rw [e, show (128#32 : BitVec 32) = BitVec.ofNat 32 128 from rfl, WordCmp.cmpi_sge_ofNat (by omega) (by omega)]
  by_cases h1 : r.val ≤ k.val ∧ k.val ≤ r.val + 128 <;> by_cases h2 : 128 ≤ k.val <;> by_cases h3 : j = 0 <;>
    simp [h1, h2, h3, IntOp.andi, IntOp.ori, Scalar.xori, IntOp.xori, Scalar.select]

/-! ## A tile at a row and a lane -/

/-- A sum over the 256 lanes that keeps one head's 64 is the sum over those 64. -/
theorem sum_head (h : Fin 4) (f : Fin 256 → EReal) (q : Fin 256 → EReal) :
    (∑ l : Fin 256, (if l.val / 64 = h.val then q l else 0) * f l)
      = ∑ e : Fin 64, q ⟨64 * h.val + e.val, by omega⟩ * f ⟨64 * h.val + e.val, by omega⟩ := by
  let g : Fin 64 → Fin 256 := fun e => ⟨64 * h.val + e.val, by omega⟩
  have hg : Function.Injective g := fun a b hab => Fin.ext (by have := congrArg Fin.val hab; simp only [g] at this; omega)
  symm
  refine Finset.sum_of_injOn g hg.injOn (fun _ _ => Finset.mem_coe.mpr (Finset.mem_univ _)) (fun l _ hl => ?_) (fun e _ => ?_)
  · rw [if_neg, zero_mul]
    intro hlh
    refine hl ⟨⟨l.val - 64 * h.val, by omega⟩, Finset.mem_coe.mpr (Finset.mem_univ _), Fin.ext ?_⟩
    show 64 * h.val + (l.val - 64 * h.val) = l.val
    omega
  · rw [if_pos (show (64 * h.val + e.val) / 64 = h.val by omega)]

/-- A head's masked score: its 64 channels of a query against a key's, −∞ for a masked key. -/
def mScore (M : Fin 256 → Prop) [DecidablePred M] (q : Fin 64 → EReal) (kw : Fin 256 → Fin 64 → EReal) (k : Fin 256) : EReal :=
  if M k then ∑ e : Fin 64, q e * kw k e else ⊥

/-- A bias of zero or −∞ is a mask. -/
theorem rScore_bias (h : Fin 4) (q : Fin 256 → EReal) (kw : Fin 256 → Fin 256 → EReal) (M : Fin 256 → Prop) [DecidablePred M] (b : Fin 256 → EReal)
    (hb : ∀ k, b k = if M k then 0 else ⊥) :
    rScore h.val q kw b = mScore M (fun e => q ⟨64 * h.val + e.val, by omega⟩) (fun k e => kw k ⟨64 * h.val + e.val, by omega⟩) := by
  funext k
  unfold rScore mScore
  rw [hb, sum_head]
  by_cases hM : M k
  · rw [if_pos hM, if_pos hM, add_zero]
  · rw [if_neg hM, if_neg hM, EReal.add_bot]

/-- Which keys a query sees: the 128 before it and itself, and none before the sequence. -/
abbrev Seen (j n : Nat) (k : Fin 256) : Prop := (n % 128 ≤ k.val ∧ k.val ≤ n % 128 + 128) ∧ (128 ≤ 128 * (n / 128) + k.val ∨ j ≠ 0)

theorem biasOf_apply (j : Nat) (hj : j < 128) (n : Fin 1024) (k : Fin 256) :
    biasOf (k0_pay15 (F := Ideal) (BitVec.ofNat 32 j)) k0_pay14 ⟨n.val / 128, by omega⟩ (ix2 ⟨n.val % 128, by omega⟩ k)
      = (if Seen j n.val k then 0 else ⊥ : EReal) := by
  unfold biasOf
  by_cases h : n.val / 128 = 0
  · rw [if_pos h, first_apply j hj]
    simp only [Seen, h, Nat.mul_zero, Nat.zero_add]
  · rw [if_neg h, band_apply]
    have : 128 ≤ 128 * (n.val / 128) + k.val := by omega
    simp only [Seen, this, true_or, and_true]

theorem queryRows_apply (x : Vec F S1x1024x256 .bf16) (n : Fin 1024) (l : Fin 256) :
    queryRows x ⟨n.val / 128, by omega⟩ (ix3 0 ⟨n.val % 128, by omega⟩ l) = x (ix3 0 n l) := by
  refine congrArg x ?_
  funext a; apply Fin.ext
  fin_cases a
  · rfl
  · show 128 * (n.val / 128) + 1 * (n.val % 128) = n.val; omega
  · show 0 + 1 * l.val = l.val; omega

section
variable {sig : RefSig} {κ : Kind} {sp : Space} (v w : View sig κ sp S1152x256 .bf16)
variable (x0 x1 : Vec Ideal S1x1024x256 .bf16) (x2 : Vec Ideal S1x128x256 .bf16) (x3 : Vec Ideal S1x1024x256 .bf16) (x4 : Vec Ideal S1x128x256 .bf16)
variable (j : Nat) (hj : j < 128) (n : Fin 1024) (h : Fin 4) (e : Fin 64)

/-- The scores of a tile's row `n` for one head. -/
def tScore : Fin 256 → EReal :=
  mScore (Seen j n.val) (fun e => x0 (ix3 0 n ⟨64 * h.val + e.val, by omega⟩))
    (fun k e => row x2 x1 (128 * (n.val / 128) + k.val) ⟨64 * h.val + e.val, by omega⟩)

include hj in
/-- A tile's attention output at a row and a head's channel: the softmax of the row's masked scores against the values. -/
theorem tileOut_apply : tileOut v w (k0_pay15 (BitVec.ofNat 32 j)) k0_pay14 x0 x1 x2 x3 x4 (ix3 0 n ⟨64 * h.val + e.val, by omega⟩)
    = rOut (tScore x0 x1 x2 j n h) (fun k => row x4 x3 (128 * (n.val / 128) + k.val) ⟨64 * h.val + e.val, by omega⟩) := by
  unfold tileOut
  rw [canon_pieces]
  refine (out_apply _ _ _ _ _ _).trans ?_
  simp only [window_apply, queryRows_apply]
  rw [show (64 * h.val + e.val) / 64 = h.val by omega, rScore_bias h _ _ _ _ (biasOf_apply j hj n)]
  rfl

include hj in
/-- A tile's log-sum-exp at a row and a head's channel: that of the row's masked scores. -/
theorem tileLse_apply : tileLse v (k0_pay15 (BitVec.ofNat 32 j)) k0_pay14 x0 x1 x2 (ix3 0 n ⟨64 * h.val + e.val, by omega⟩)
    = rLse (tScore x0 x1 x2 j n h) := by
  unfold tileLse
  rw [canon_pieces]
  refine (lse_apply _ _ _ _ _).trans ?_
  simp only [window_apply, queryRows_apply]
  rw [show (64 * h.val + e.val) / 64 = h.val by omega, rScore_bias h _ _ _ _ (biasOf_apply j hj n)]
  rfl
end

end Cert.AttnBlock
-- ==== Proof.AttnSpec.lean ====
module

public import proofs.«01_k».proof.Proof.AttnTile

@[expose] public section

set_option maxRecDepth 16384

noncomputable section

namespace Cert.AttnBlock

open Idealize.ShloMosaic Idealize.ShloMosaic.TcCoe

/-! ## Banded attention as a formula: who sees whom, and with which keys -/

/-- Query number `n` of a dilated sequence may look at window position `k`: its own block of 128 starts at position 128 of the window, the
queries look at most 128 back, and positions before the sequence are left out. -/
abbrev Band (n : Nat) (k : Fin 256) : Prop := (n % 128 ≤ k.val ∧ k.val ≤ n % 128 + 128) ∧ 128 ≤ 128 * (n / 128) + k.val

/-- The number in its dilated sequence of the key at window position `k` of query `n` (meaningful inside the sequence). -/
abbrev keyAt (n : Nat) (k : Fin 256) : Nat := 128 * (n / 128) + k.val - 128

/-- Entry `l` of row `p` of the sequence `r` of the rows of `x` taken `d` apart. -/
def strand (d : Nat) (x : FVec Ideal Cert.Attn4Ideal.S2x16384x256 .bf16) (t : Fin 2) (r p l : Nat) : EReal :=
  x (ix3 t (Fin.ofNat 16384 (p * d + r)) (Fin.ofNat 256 l))

/-- The scores of query `n` of head `h`, from the rows of its sequence. -/
def bandScore (Q K : Nat → Nat → EReal) (h n : Nat) : Fin 256 → EReal :=
  mScore (Band n) (fun e => Q n (64 * h + e.val)) (fun k e => K (keyAt n k) (64 * h + e.val))

/-- Entry `e` of the output of query `n` of head `h`. -/
def attend (Q K V : Nat → Nat → EReal) (h n e : Nat) : EReal := rOut (bandScore Q K h n) fun k => V (keyAt n k) (64 * h + e)

/-- The log-sum-exp of the scores of query `n` of head `h`. -/
def attendLse (Q K : Nat → Nat → EReal) (h n : Nat) : EReal := rLse (bandScore Q K h n)

/-- A score is above `-∞` only at a window position the query may look at. -/
theorem mScore_ne_bot (M : Fin 256 → Prop) [DecidablePred M] (q : Fin 64 → EReal) (kw : Fin 256 → Fin 64 → EReal) (k : Fin 256)
    (hk : mScore M q kw k ≠ ⊥) : M k := by
  by_contra c
  exact hk (if_neg c)

/-- Only the keys that the query may look at matter. -/
theorem mScore_congr (M M' : Fin 256 → Prop) [DecidablePred M] [DecidablePred M'] (q q' : Fin 64 → EReal) (kw kw' : Fin 256 → Fin 64 → EReal)
    (hM : ∀ k, M k ↔ M' k) (hq : ∀ e, q e = q' e) (hk : ∀ k, M' k → ∀ e, kw k e = kw' k e) : mScore M q kw = mScore M' q' kw' := by
  funext k
  unfold mScore
  by_cases c : M' k
  · rw [if_pos c, if_pos ((hM k).2 c)]
    exact Finset.sum_congr rfl fun e _ => by rw [hq e, hk k c e]
  · rw [if_neg c, if_neg fun x => c ((hM k).1 x)]

/-! ## A tile of the kernel computes these formulas -/

section
open Cert.Attn4Ideal Cert.Attn4Ideal.Gen

/-- Every index of a tile is a row and a column of one of the four heads. -/
theorem tile_index (i : S1x1024x256.Idx) : ∃ (n : Fin 1024) (h : Fin 4) (e : Fin 64), i = ix3 0 n ⟨64 * h.val + e.val, by omega⟩ := by
  have h0 : (i 0).val < 1 := (i 0).isLt
  have h2 : (i 2).val < 256 := (i 2).isLt
  refine ⟨i 1, ⟨(i 2).val / 64, by omega⟩, ⟨(i 2).val % 64, by omega⟩, ?_⟩
  funext a; apply Fin.ext
  match a with
  | ⟨0, _⟩ => show (i 0).val = 0; omega
  | ⟨1, _⟩ => rfl
  | ⟨2, _⟩ => show (i 2).val = 64 * ((i 2).val / 64) + (i 2).val % 64; omega

/-- A window position of a tile that the query may look at holds the key the formula names. -/
theorem row_strand (prev : FVec Ideal S1x128x256 .bf16) (cur : FVec Ideal S1x1024x256 .bf16) (K : Nat → Nat → EReal) (j : Nat)
    (hc : ∀ n l, cur (ix3 0 n l) = K (1024 * j + n.val) l.val) (hp : j ≠ 0 → ∀ n l, prev (ix3 0 n l) = K (1024 * j - 128 + n.val) l.val)
    (n : Fin 1024) (k l : Fin 256) (hk : Band (1024 * j + n.val) k) :
    row (F := Ideal) prev cur (128 * (n.val / 128) + k.val) l = K (keyAt (1024 * j + n.val) k) l.val := by
  have h := hk.2
  unfold row
  split
  · rename_i c
    rw [hp (by omega)]
    congr 1
    show _ = 128 * ((1024 * j + n.val) / 128) + k.val - 128
    simp only []
    omega
  · rename_i c
    rw [hc]
    congr 1
    show _ = 128 * ((1024 * j + n.val) / 128) + k.val - 128
    simp only []
    omega

variable {sig : RefSig} {κ : Kind} {sp : Space} (v w : View sig κ sp S1152x256 .bf16)
  (x0 x1 : FVec Ideal S1x1024x256 .bf16) (x2 : FVec Ideal S1x128x256 .bf16) (x3 : FVec Ideal S1x1024x256 .bf16) (x4 : FVec Ideal S1x128x256 .bf16)
  (Q K V : Nat → Nat → EReal) (j : Nat) (hj : j < 128)
  (h0 : ∀ n l, x0 (ix3 0 n l) = Q (1024 * j + n.val) l.val) (h1 : ∀ n l, x1 (ix3 0 n l) = K (1024 * j + n.val) l.val)
  (h2 : j ≠ 0 → ∀ n l, x2 (ix3 0 n l) = K (1024 * j - 128 + n.val) l.val) (h3 : ∀ n l, x3 (ix3 0 n l) = V (1024 * j + n.val) l.val)
  (h4 : j ≠ 0 → ∀ n l, x4 (ix3 0 n l) = V (1024 * j - 128 + n.val) l.val) (n : Fin 1024) (h : Fin 4) (e : Fin 64)

include h0 h1 h2 in
theorem tScore_strand : tScore x0 x1 x2 j n h = bandScore Q K h.val (1024 * j + n.val) :=
  mScore_congr _ _ _ _ _ _ (fun k => by constructor <;> (intro c; have c1 := c.1; have c2 := c.2; refine ⟨?_, ?_⟩ <;> omega)) (fun e => h0 n _)
    (fun k c e => row_strand x2 x1 K j h1 h2 n k _ c)

include hj h0 h1 h2 h3 h4 in
/-- A tile's output is the banded attention of its rows. -/
theorem tileOut_strand : tileOut (F := Ideal) v w (k0_pay15 (BitVec.ofNat 32 j)) k0_pay14 x0 x1 x2 x3 x4 (ix3 0 n ⟨64 * h.val + e.val, by omega⟩)
    = attend Q K V h.val (1024 * j + n.val) e.val := by
  rw [tileOut_apply v w x0 x1 x2 x3 x4 j hj n h e, tScore_strand x0 x1 x2 Q K j h0 h1 h2 n h]
  exact rOut_congr _ _ _ fun k hk => row_strand x4 x3 V j h3 h4 n k _ (mScore_ne_bot _ _ _ k hk)

include hj h0 h1 h2 in
/-- A tile's log-sum-exp is that of the banded attention of its rows. -/
theorem tileLse_strand : tileLse (F := Ideal) v (k0_pay15 (BitVec.ofNat 32 j)) k0_pay14 x0 x1 x2 (ix3 0 n ⟨64 * h.val + e.val, by omega⟩)
    = attendLse Q K h.val (1024 * j + n.val) := by
  rw [tileLse_apply v x0 x1 x2 j hj n h e, tScore_strand x0 x1 x2 Q K j h0 h1 h2 n h]
  rfl

end

/-- The reference's mask arithmetic, on words: query `q` of block `b` looks at window position `k`. -/
theorem band_words (b q k : Nat) (hb : b < 128) (hq : q < 128) (hk : k < 256) :
    IntOp.andi (IntOp.andi (IntOp.cmpi .sge (IntOp.subi (IntOp.addi (BitVec.ofNat 32 q) 128#32) (BitVec.ofNat 32 k)) 0#32)
        (IntOp.cmpi .sle (IntOp.subi (IntOp.addi (BitVec.ofNat 32 q) 128#32) (BitVec.ofNat 32 k)) 128#32))
      (IntOp.cmpi .sge (IntOp.addi (IntOp.subi (IntOp.muli (BitVec.ofNat 32 b) 128#32) 128#32) (BitVec.ofNat 32 k)) 0#32)
      = if (q ≤ k ∧ k ≤ q + 128) ∧ 128 ≤ 128 * b + k then 1#1 else 0#1 := by
  have hi : ∀ a : Nat, a < 2 ^ 31 → (BitVec.ofNat 32 a).toInt = (a : Int) := fun a h => WordCmp.toInt_ofNat_of_lt (w := 32) h
  have h1 : (IntOp.subi (IntOp.addi (BitVec.ofNat 32 q) 128#32) (BitVec.ofNat 32 k)).toInt = (q : Int) + 128 - k := by
    simp only [IntOp.subi, IntOp.addi, BitVec.toInt_sub, BitVec.toInt_add, hi q (by omega), hi k (by omega), hi 128 (by omega), Int.bmod_def]
    norm_num
    split <;> split <;> omega
  have h2 : (IntOp.addi (IntOp.subi (IntOp.muli (BitVec.ofNat 32 b) 128#32) 128#32) (BitVec.ofNat 32 k)).toInt = (b : Int) * 128 - 128 + k := by
    simp only [IntOp.subi, IntOp.addi, IntOp.muli, BitVec.toInt_sub, BitVec.toInt_add, BitVec.toInt_mul, hi b (by omega), hi k (by omega), hi 128 (by omega), Int.bmod_def]
    norm_num
    split <;> split <;> split <;> omega
  simp only [WordCmp.cmpi_sge_eq, WordCmp.cmpi_sle_eq, h1, h2, hi 128 (by omega), hi 0 (by omega), WordCmp.andi_ofBool]
  by_cases c : (q ≤ k ∧ k ≤ q + 128) ∧ 128 ≤ 128 * b + k
  · rw [if_pos c, WordCmp.ofBool_eq_one_iff]
    simp only [Bool.and_eq_true, decide_eq_true_eq]
    omega
  · rw [if_neg c, WordCmp.ofBool_eq_zero_iff]
    simp only [Bool.and_eq_false_iff, decide_eq_false_iff_not]
    omega

/-! ## Three operations of the host at an index -/

section
variable {s : Shape} (a b : FVec Ideal s .f32) (i : s.Idx)
theorem divf_ix : Host.divf a b i = Ideal.div (a i) (b i) := rfl
theorem addf_ix : addf a b i = (a i + b i : EReal) := rfl
theorem log_ix : Host.log a i = Ideal.log (a i) := rfl
theorem truncf_ix (h : FTy.bits .bf16 < FTy.bits .f32) : (truncf .bf16 a h : FVec Ideal s .bf16) i = a i := rfl
end

/-! ## A reduction of the last of six axes -/

section
variable {n0 n1 n2 n3 n4 n5 : Nat} (h : (⟨6, ![n0, n1, n2, n3, n4, n5]⟩ : Shape).ReducesTo [5] ⟨5, ![n0, n1, n2, n3, n4]⟩)
  (a : Fin n0) (b : Fin n1) (c : Fin n2) (d : Fin n3) (e : Fin n4)

/-- The indices a reduction of the last axis takes together are those that differ in the last coordinate only. -/
theorem drop_last (i : (⟨6, ![n0, n1, n2, n3, n4, n5]⟩ : Shape).Idx) : h.drop i = ix5 a b c d e ↔ ∃ k : Fin n5, ix6 a b c d e k = i := by
  constructor
  · intro w
    refine ⟨i 5, ?_⟩
    funext x; apply Fin.ext
    match x with
    | ⟨0, _⟩ => exact (congrArg Fin.val (congrFun w 0)).symm
    | ⟨1, _⟩ => exact (congrArg Fin.val (congrFun w 1)).symm
    | ⟨2, _⟩ => exact (congrArg Fin.val (congrFun w 2)).symm
    | ⟨3, _⟩ => exact (congrArg Fin.val (congrFun w 3)).symm
    | ⟨4, _⟩ => exact (congrArg Fin.val (congrFun w 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- A sum over the last axis. -/
theorem sum_last (v : (⟨6, ![n0, n1, n2, n3, n4, n5]⟩ : Shape).Idx → EReal) :
    ∑ i ∈ Finset.univ.filter (fun i => h.drop i = ix5 a b c d e), v i = ∑ k, v (ix6 a b c d e k) :=
  Finset.sum_filter_eq_sum_of_fiber _ (fun k : Fin n5 => ix6 a b c d e k) (fun _ _ w => congrFun w 5) (drop_last h a b c d e) v

/-- A largest value over the last axis. -/
theorem fold_last (z : EReal) (v : (⟨6, ![n0, n1, n2, n3, n4, n5]⟩ : Shape).Idx → EReal) :
    (Finset.univ.filter (fun i => h.drop i = ix5 a b c d e)).fold max z v = Finset.univ.fold max z fun k => v (ix6 a b c d e k) :=
  Finset.fold_filter_eq_fold_of_fiber max _ (fun k : Fin n5 => ix6 a b c d e k) (fun _ _ w => congrFun w 5) (drop_last h a b c d e) z v

end

end Cert.AttnBlock
-- ==== Proof.AttnRef4.lean ====
module

public import proofs.«01_k».proof.Proof.AttnSpec
public import proofs.«01_k».proof.Proof.Gen.Attn4RefIdeal.Run
public import Idealize.ShloMosaic.Lib.Pointwise

@[expose] public section

set_option maxRecDepth 16384

noncomputable section

namespace Cert.Attn4RefIdeal.Blocks

open Cert.Attn4RefIdeal Cert.Attn4RefIdeal.Gen Cert.Attn4RefIdeal.Value Idealize.ShloMosaic Idealize.ShloMosaic.TcCoe Idealize.SL.Sem
open Cert.AttnBlock (strand bandScore attend attendLse mScore_congr mScore_ne_bot rOut_congr divf_ix addf_ix log_ix truncf_ix rMax rOut rLse mScore Band keyAt band_words ofBits_neg_inf sel fold_last sum_last)

/-! ## The stages of the reference at dilation 4, named -/

/-- A tensor of queries, keys or values cut into its dilated sequences, its heads and its blocks of 128. -/
def blocks (x : FVec Ideal S2x16384x256 .bf16) : FVec Ideal S1x4x8x32x128x64 .f32 :=
  shapeCast _ (transpose S1x4x8x4096x64 [0, 2, 3, 1, 4] (shapeCast _ (shapeCast _ (transpose S16384x2x256 [1, 0, 2]
    (extf .f32 x bitsLt_bf16_f32) transposes_S2x16384x256_S16384x2x256_1_0_2) shapeCasts_S16384x2x256_S1x16384x8x64)
    shapeCasts_S1x16384x8x64_S1x4096x4x8x64) transposes_S1x4096x4x8x64_S1x4x8x4096x64_0_2_3_1_4) shapeCasts_S1x4x8x4096x64_S1x4x8x32x128x64

/-- Every block after the block before it: the windows of 256 keys or values. -/
def windows (b : FVec Ideal S1x4x8x32x128x64 .f32) : FVec Ideal S1x4x8x32x256x64 .f32 :=
  concatenate S1x4x8x32x256x64 4 [⟨S1x4x8x32x128x64, pad S1x4x8x32x128x64 ![0, 0, 0, 1, 0, 0] ![0, 0, 0, 0, 0, 0] ![0, 0, 0, 0, 0, 0]
    (extractStridedSlice S1x4x8x31x128x64 ![0, 0, 0, 0, 0, 0] b slices_S1x4x8x32x128x64_S1x4x8x31x128x64_0_0_0_0_0_0)
    (sitofp (F := Ideal) .f32 (constantI S_ 32 0#32)) pads_S1x4x8x31x128x64_S1x4x8x32x128x64_000_000_000_100_000_000 h_S_⟩, ⟨S1x4x8x32x128x64, b⟩]
    concatenates_S1x4x8x32x128x64_S1x4x8x32x128x64_S1x4x8x32x256x64_d4

/-- The distance of a query of a block from a position of its window. -/
def distance : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- The place in the sequence of a window position of a block. -/
def place : IVec S32x1x256 32 :=
  addi (broadcastInDim S32x1x256 ![0, 1, 2] bcast_S32x1x1_S32x1x256_0_1_2 (subi (muli (broadcastInDim S32x1x1 ![0] bcast_S32_S32x1x1_0 (iotaInDim S32 32 0))
      (broadcastInDim S32x1x1 ![] bcast_S_S32x1x1 (constantI S_ 32 128#32))) (broadcastInDim S32x1x1 ![] bcast_S_S32x1x1 (constantI S_ 32 128#32))))
    (broadcastInDim S32x1x256 ![0, 1, 2] bcast_S1x1x256_S32x1x256_0_1_2 (broadcastInDim S1x1x256 ![1, 2] bcast_S1x256_S1x1x256_1_2
      (broadcastInDim S1x256 ![1] bcast_S256_S1x256_1 (iotaInDim S256 32 0))))

/-- The band and the start of the sequence, as one mask. -/
def mask : IVec S32x128x256 1 :=
  andi (broadcastInDim S32x128x256 ![0, 1, 2] bcast_S1x128x256_S32x128x256_0_1_2 (broadcastInDim S1x128x256 ![1, 2] bcast_S128x256_S1x128x256_1_2
      (andi (cmpi .sge distance (broadcastInDim S128x256 ![] bcast_S_S128x256 (constantI S_ 32 0#32)))
        (cmpi .sle distance (broadcastInDim S128x256 ![] bcast_S_S128x256 (constantI S_ 32 128#32))))))
    (broadcastInDim S32x128x256 ![0, 1, 2] bcast_S32x1x256_S32x128x256_0_1_2 (cmpi .sge place (broadcastInDim S32x1x256 ![] bcast_S_S32x1x256 (constantI S_ 32 0#32))))

/-- The masked scores. -/
def scored (qb : FVec Ideal S1x4x8x32x128x64 .f32) (kw : FVec Ideal S1x4x8x32x256x64 .f32) : FVec Ideal S1x4x8x32x128x256 .f32 :=
  select (broadcastInDim S1x4x8x32x128x256 ![3, 4, 5] bcast_S32x128x256_S1x4x8x32x128x256_3_4_5 mask)
    (Host.dotGeneral dot_S1x4x8x32x128x64_S1x4x8x32x256x64_S1x4x8x32x128x256_5_5_4_4_0123_0123 none qb kw)
    (broadcastInDim S1x4x8x32x128x256 ![] bcast_S_S1x4x8x32x128x256 (id (constant (F := Ideal) S_ .f32 0xFF800000#32)))

/-- The largest score of a query. -/
def top (s : FVec Ideal S1x4x8x32x128x256 .f32) : FVec Ideal S1x4x8x32x128 .f32 :=
  Host.reduce FloatOps.maximumf s (constant S_ .f32 0xFF800000#32) reducesTo_S1x4x8x32x128x256_S1x4x8x32x128_d5 h_S_

/-- The exponentials of the scores, the largest taken off. -/
def powers (s : FVec Ideal S1x4x8x32x128x256 .f32) : FVec Ideal S1x4x8x32x128x256 .f32 :=
  Host.exp (subf s (broadcastInDim S1x4x8x32x128x256 ![0, 1, 2, 3, 4, 5] bcast_S1x4x8x32x128x1_S1x4x8x32x128x256_0_1_2_3_4_5
    (broadcastInDim S1x4x8x32x128x1 ![0, 1, 2, 3, 4] bcast_S1x4x8x32x128_S1x4x8x32x128x1_0_1_2_3_4 (top s))))

/-- The sum of a query's exponentials. -/
def total (s : FVec Ideal S1x4x8x32x128x256 .f32) : FVec Ideal S1x4x8x32x128 .f32 :=
  Host.reduceAdd (powers s) (constant S_ .f32 0x00000000#32) reducesTo_S1x4x8x32x128x256_S1x4x8x32x128_d5 h_S_

/-- A number for each query and head, back in the order of the rows. -/
def perHead (a : FVec Ideal S1x4x8x32x128 .f32) : FVec Ideal S1x16384x8 .f32 :=
  shapeCast _ (transpose S1x4096x4x8 [0, 3, 1, 2] (shapeCast _ a shapeCasts_S1x4x8x32x128_S1x4x8x4096) transposes_S1x4x8x4096_S1x4096x4x8_0_3_1_2)
    shapeCasts_S1x4096x4x8_S1x16384x8

/-- A number for each query and head, repeated over the head's columns. -/
def overHead (a : FVec Ideal S1x16384x8 .f32) : FVec Ideal S1x16384x8x64 .f32 :=
  broadcastInDim S1x16384x8x64 ![0, 1, 2, 3] bcast_S1x16384x8x1_S1x16384x8x64_0_1_2_3 (broadcastInDim S1x16384x8x1 ![0, 1, 2] bcast_S1x16384x8_S1x16384x8x1_0_1_2 a)

/-- The outputs of all queries before the division, back in the order of the rows. -/
def mixed (s : FVec Ideal S1x4x8x32x128x256 .f32) (vw : FVec Ideal S1x4x8x32x256x64 .f32) : FVec Ideal S1x16384x8x64 .f32 :=
  shapeCast _ (transpose S1x4096x4x8x64 [0, 3, 1, 2, 4] (shapeCast _
    (Host.dotGeneral dot_S1x4x8x32x128x256_S1x4x8x32x256x64_S1x4x8x32x128x64_5_4_4_5_0123_0123 none (powers s) vw)
    shapeCasts_S1x4x8x32x128x64_S1x4x8x4096x64) transposes_S1x4x8x4096x64_S1x4096x4x8x64_0_3_1_2_4) shapeCasts_S1x4096x4x8x64_S1x16384x8x64

/-- Every row's heads beside each other, and the rows of a dilated row beside each other. -/
def laid (a : FVec Ideal S1x16384x8x64 .f32) : FVec Ideal S2x4096x1024 .f32 :=
  shapeCast _ (transpose S2x16384x256 [1, 0, 2] (shapeCast _ a shapeCasts_S1x16384x8x64_S16384x2x256) transposes_S16384x2x256_S2x16384x256_1_0_2)
    shapeCasts_S2x16384x256_S2x4096x1024

variable (m : (ℓ : Loc nD τ sig) → Buf (Elt Ideal) ℓ) (c : Dev nD)

/-- The scores of the reference. -/
def logits (x0 x1 : FVec Ideal S2x16384x256 .bf16) : FVec Ideal S1x4x8x32x128x256 .f32 := scored (blocks x0) (windows (blocks x1))

/-- The output of the reference, as a function of the queries, keys and values. -/
def outOf (x0 x1 x2 : FVec Ideal S2x16384x256 .bf16) : FVec Ideal S2x4096x1024 .bf16 :=
  truncf .bf16 (laid (Host.divf (mixed (logits x0 x1) (windows (blocks x2))) (overHead (perHead (total (logits x0 x1)))))) bitsLt_bf16_f32

/-- The log-sum-exp of the reference, as a function of the queries and keys. -/
def lseOf (x0 x1 : FVec Ideal S2x16384x256 .bf16) : FVec Ideal S2x4096x1024 .f32 :=
  laid (overHead (addf (perHead (top (logits x0 x1))) (Host.log (perHead (total (logits x0 x1))))))

/-- The reference's first result is that output. -/
theorem res0 : res_out0 m c = outOf (m ((c.tc : Thread nD τ).loc main_arg0)) (m ((c.tc : Thread nD τ).loc main_arg1)) (m ((c.tc : Thread nD τ).loc main_arg2)) := by
  unfold res_out0 res_main_v82 outOf laid mixed overHead perHead total powers top logits scored mask distance place windows blocks
  rfl

/-- The reference's second result is that log-sum-exp. -/
theorem res1 : res_out1 m c = lseOf (m ((c.tc : Thread nD τ).loc main_arg0)) (m ((c.tc : Thread nD τ).loc main_arg1)) := by
  unfold res_out1 res_main_v85 lseOf laid overHead perHead total powers top logits scored mask distance place windows blocks
  rfl

/-! ## The stages read at an index -/

variable (x : FVec Ideal S2x16384x256 .bf16) (r : Fin 4) (t : Fin 2) (h : Fin 4) (nb : Fin 32) (q : Fin 128) (k : Fin 256) (e : Fin 64)

theorem blocks_apply : blocks x (ix6 0 r ⟨4 * t.val + h.val, by omega⟩ nb q e)
    = x (ix3 t ⟨(128 * nb.val + q.val) * 4 + r.val, by omega⟩ ⟨64 * h.val + e.val, by omega⟩) := by
  pointwise [blocks]
  congr 1
  apply congrArg₂ (ix3 _) <;> ext <;> simp <;> omega

theorem windows_apply (hk : 128 ≤ 128 * nb.val + k.val) : windows (blocks x) (ix6 0 r ⟨4 * t.val + h.val, by omega⟩ nb k e)
    = x (ix3 t ⟨(128 * nb.val + k.val - 128) * 4 + r.val, by omega⟩ ⟨64 * h.val + e.val, by omega⟩) := by
  pointwise [windows]
  by_cases c : k.val < 128
  · rw [dif_pos c, dif_pos ⟨by omega, ⟨by omega, by omega⟩, c⟩]
    exact (blocks_apply x r t h ⟨nb.val - 1, by omega⟩ ⟨k.val, c⟩ e).trans (by congr 2; ext; simp; omega)
  · rw [dif_neg c]
    exact (blocks_apply x r t h nb ⟨k.val - 128, by omega⟩ e).trans (by congr 2; ext; simp; omega)

theorem mask_apply : mask (ix3 nb q k) = if (q.val ≤ k.val ∧ k.val ≤ q.val + 128) ∧ 128 ≤ 128 * nb.val + k.val then 1#1 else 0#1 := by
  pointwise [mask, distance, place]
  exact band_words nb.val q.val k.val (by omega) q.isLt k.isLt

theorem logits_apply (x0 x1 : FVec Ideal S2x16384x256 .bf16) : logits x0 x1 (ix6 0 r ⟨4 * t.val + h.val, by omega⟩ nb q k)
    = mScore (fun k => (q.val ≤ k.val ∧ k.val ≤ q.val + 128) ∧ 128 ≤ 128 * nb.val + k.val)
      (fun e => x0 (ix3 t ⟨(128 * nb.val + q.val) * 4 + r.val, by omega⟩ ⟨64 * h.val + e.val, by omega⟩))
      (fun k e => x1 (ix3 t ⟨(128 * nb.val + k.val - 128) * 4 + r.val, by omega⟩ ⟨64 * h.val + e.val, by omega⟩)) k := by
  pointwise [logits, scored, dot_S1x4x8x32x128x64_S1x4x8x32x256x64_S1x4x8x32x128x256_5_5_4_4_0123_0123]
  rw [mask_apply, sel]
  unfold mScore
  by_cases c : (q.val ≤ k.val ∧ k.val ≤ q.val + 128) ∧ 128 ≤ 128 * nb.val + k.val
  · rw [if_pos c, if_pos c]
    exact Finset.sum_congr rfl fun e _ => by rw [blocks_apply, windows_apply _ _ _ _ _ _ _ c.2]
  · rw [if_neg c, if_neg c]
    exact ofBits_neg_inf

variable (s : FVec Ideal S1x4x8x32x128x256 .f32) (g : Fin 8)

theorem top_apply : top s (ix5 0 r g nb q) = rMax fun k => s (ix6 0 r g nb q k) := by
  pointwise [top]
  rw [fold_last, ofBits_neg_inf]
  rfl
theorem powers_apply : powers s (ix6 0 r g nb q k) = Ideal.exp (s (ix6 0 r g nb q k) - rMax fun k => s (ix6 0 r g nb q k)) := by
  pointwise [powers, top_apply]
theorem total_apply : total s (ix5 0 r g nb q) = ∑ k, Ideal.exp (s (ix6 0 r g nb q k) - rMax fun k => s (ix6 0 r g nb q k)) := by
  pointwise [total]
  rw [Ideal.hostReduceAdd, sum_last, zero_add]
  exact Finset.sum_congr rfl fun k _ => powers_apply r nb q k s g
theorem perHead_apply (a : FVec Ideal S1x4x8x32x128 .f32) : perHead a (ix3 0 ⟨(128 * nb.val + q.val) * 4 + r.val, by omega⟩ g) = a (ix5 0 r g nb q) := by
  pointwise [perHead]
theorem overHead_apply (a : FVec Ideal S1x16384x8 .f32) (p : Fin 16384) : overHead a (ix4 0 p g e) = a (ix3 0 p g) := by
  pointwise [overHead]
theorem mixed_apply (vw : FVec Ideal S1x4x8x32x256x64 .f32) : mixed s vw (ix4 0 ⟨(128 * nb.val + q.val) * 4 + r.val, by omega⟩ g e)
    = ∑ k, Ideal.exp (s (ix6 0 r g nb q k) - rMax fun k => s (ix6 0 r g nb q k)) * vw (ix6 0 r g nb k e) := by
  pointwise [mixed, powers_apply, dot_S1x4x8x32x128x256_S1x4x8x32x256x64_S1x4x8x32x128x64_5_4_4_5_0123_0123]
theorem laid_apply (a : FVec Ideal S1x16384x8x64 .f32) : laid a (ix3 t ⟨128 * nb.val + q.val, by omega⟩ ⟨256 * r.val + (64 * h.val + e.val), by omega⟩)
    = a (ix4 0 ⟨(128 * nb.val + q.val) * 4 + r.val, by omega⟩ ⟨4 * t.val + h.val, by omega⟩ e) := by
  pointwise [laid]
  congr 1
  apply congrArg₂ (fun u v => ix4 0 u v e) <;> ext <;> simp <;> omega

/-! ## The two results at an index -/

variable (x0 x1 x2 : FVec Ideal S2x16384x256 .bf16) (n : Fin 4096)

theorem logits_band : (fun k => logits x0 x1 (ix6 0 r ⟨4 * t.val + h.val, by omega⟩ ⟨n.val / 128, by omega⟩ ⟨n.val % 128, by omega⟩ k))
    = bandScore (strand 4 x0 t r.val) (strand 4 x1 t r.val) h.val n.val := by
  funext k
  rw [logits_apply]
  refine congrFun (mScore_congr _ _ _ _ _ _ (fun k => Iff.rfl) (fun e => ?_) (fun k c e => ?_)) k
  · unfold strand
    congr 2 <;> ext <;> simp <;> omega
  · unfold strand keyAt
    have := n.isLt; have := k.isLt; have := r.isLt; simp only [] at c
    congr 2 <;> ext <;> simp <;> omega

theorem outOf_blocks : outOf x0 x1 x2 (ix3 t ⟨128 * nb.val + q.val, by omega⟩ ⟨256 * r.val + (64 * h.val + e.val), by omega⟩)
    = rOut (fun k => logits x0 x1 (ix6 0 r ⟨4 * t.val + h.val, by omega⟩ nb q k)) (fun k => windows (blocks x2) (ix6 0 r ⟨4 * t.val + h.val, by omega⟩ nb k e)) := by
  unfold outOf
  rw [truncf_ix, laid_apply, divf_ix, mixed_apply, overHead_apply, perHead_apply, total_apply]
  rfl

theorem lseOf_blocks : lseOf x0 x1 (ix3 t ⟨128 * nb.val + q.val, by omega⟩ ⟨256 * r.val + (64 * h.val + e.val), by omega⟩)
    = rLse (fun k => logits x0 x1 (ix6 0 r ⟨4 * t.val + h.val, by omega⟩ nb q k)) := by
  unfold lseOf
  rw [laid_apply, overHead_apply, addf_ix, log_ix, perHead_apply, perHead_apply, top_apply, total_apply]
  rfl

/-- The reference's output is the banded attention of each sequence. -/
theorem outOf_apply : outOf x0 x1 x2 (ix3 t n ⟨256 * r.val + (64 * h.val + e.val), by omega⟩)
    = attend (strand 4 x0 t r.val) (strand 4 x1 t r.val) (strand 4 x2 t r.val) h.val n.val e.val := by
  have hn : n = ⟨128 * (n.val / 128) + n.val % 128, by omega⟩ := Fin.ext (by simp; omega)
  refine (congrArg (fun n => outOf x0 x1 x2 (ix3 t n _)) hn).trans ((outOf_blocks r t h ⟨n.val / 128, by omega⟩ ⟨n.val % 128, by omega⟩ e x0 x1 x2).trans ?_)
  rw [logits_band]
  refine rOut_congr _ _ _ fun k hk => ?_
  have c := (mScore_ne_bot _ _ _ k hk).2
  rw [windows_apply _ _ _ _ _ _ _ c]
  unfold strand keyAt
  have := n.isLt; have := k.isLt; have := r.isLt
  congr 2 <;> ext <;> simp <;> omega

/-- The reference's log-sum-exp is that of the banded attention of each sequence. -/
theorem lseOf_apply : lseOf x0 x1 (ix3 t n ⟨256 * r.val + (64 * h.val + e.val), by omega⟩)
    = attendLse (strand 4 x0 t r.val) (strand 4 x1 t r.val) h.val n.val := by
  have hn : n = ⟨128 * (n.val / 128) + n.val % 128, by omega⟩ := Fin.ext (by simp; omega)
  refine (congrArg (fun n => lseOf x0 x1 (ix3 t n _)) hn).trans ((lseOf_blocks r t h ⟨n.val / 128, by omega⟩ ⟨n.val % 128, by omega⟩ e x0 x1).trans ?_)
  rw [logits_band]
  rfl

end Cert.Attn4RefIdeal.Blocks
-- ==== Proof.AttnRun4.lean ====
module

public import proofs.«01_k».proof.Proof.AttnRef4
public import proofs.«01_k».proof.Proof.Gen.Attn4Ideal.Value
public import Idealize.ShloMosaic.Lib.Pointwise

@[expose] public section

set_option maxRecDepth 16384

noncomputable section

namespace Cert.Attn4Ideal.Blocks

open Cert.Attn4Ideal Cert.Attn4Ideal.Gen Idealize.ShloMosaic Idealize.ShloMosaic.TcCoe Idealize.ShloMosaic.Tactic
open Idealize.SL Idealize.SL.Sem
open Idealize.ShloMosaic.Pipeline (Dat)

variable (m : (ℓ : Loc nD τ sig) → Buf (Elt Ideal) ℓ) (ρ : Dev nD → PrngReg)

theorem outs5 (c : Dev nD) (t : Fin cfg0.N) : (outsAt0 m c t).1
    = AttnBlock.tileOut (View.whole cc0_scratch0) (View.whole cc0_scratch1) (k0_pay15 (BitVec.ofNat 32 (grid0.coords t 2).val)) k0_pay14
        (iblk m c 0 t) (iblk m c 1 t) (iblk m c 2 t) (iblk m c 3 t) (iblk m c 4 t) := by
  unfold outsAt0 out0_A_5
  dsimp only
  rw [View.read_writes_eq_canon _ _ _ (cover0_A_5 c _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread, (hs0_3 t).read_unread, (hs0_4 t).read_unread]
  rfl

theorem outs6 (c : Dev nD) (t : Fin cfg0.N) : (outsAt0 m c t).2
    = AttnBlock.tileLse (View.whole cc0_scratch0) (k0_pay15 (BitVec.ofNat 32 (grid0.coords t 2).val)) k0_pay14
        (iblk m c 0 t) (iblk m c 1 t) (iblk m c 2 t) := by
  unfold outsAt0 out0_A_6
  dsimp only
  rw [View.read_writes_eq_canon _ _ _ (cover0_A_6 c _ _ _ _ _ _ _ _ _ _ _ _ _ _ _ _ _ _ _ _ _ _ _ _)]
  unfold kernelRun0_A; dsimp only; sl_unfold_words
  simp only [View.readAt_eq_ld, (hs0_0 t).read_unread, (hs0_1 t).read_unread, (hs0_2 t).read_unread]
  rfl

/-! ## The five blocks of a point, in the arguments -/

variable (c : Dev nD) (t : Fin cfg0.N)

/-- The first axis, the sequence within the dilated rows, and the tile of a grid point. -/
abbrev part : Fin 2 := grid0.coords t 0
abbrev lane : Fin 4 := grid0.coords t 1
abbrev tile : Fin 4 := grid0.coords t 2

/-- The block of 1024 rows that a point reads and writes. -/
theorem index_tile : ∀ t : Fin cfg0.N, win0_0.index t = ![(part t).val, (tile t).val, (lane t).val] :=
  (by decide +kernel : ∀ t : Fin grid0.N, win0_0.index t = ![(part t).val, (tile t).val, (lane t).val])

/-- The block of the 128 rows before it; of the first, its own first rows. -/
theorem index_prev : ∀ t : Fin cfg0.N, win0_2.index t = ![(part t).val, 8 * (tile t).val - 1, (lane t).val] :=
  (by decide +kernel : ∀ t : Fin grid0.N, win0_2.index t = ![(part t).val, 8 * (tile t).val - 1, (lane t).val])

/-- The rows of an argument taken four apart lie beside each other in the array a window reads. -/
theorem laid_rows (x : FVec Ideal S2x16384x256 .bf16) (p : Fin 2) (n : Fin 4096) (r : Fin 4) (l : Fin 256) :
    (shapeCast S2x4096x1024 x shapeCasts_S2x16384x256_S2x4096x1024 : FVec Ideal S2x4096x1024 .bf16) (ix3 p n ⟨256 * r.val + l.val, by omega⟩)
      = AttnBlock.strand 4 x p r.val n.val l.val := by
  unfold AttnBlock.strand
  pointwise
  have := n.isLt; have := r.isLt; have := l.isLt
  congr 2 <;> ext <;> simp <;> omega

theorem V0 : V m c main_v0 = (shapeCast S2x4096x1024 (m ((c.tc : Thread nD τ).loc main_arg0)) shapeCasts_S2x16384x256_S2x4096x1024 : FVec Ideal S2x4096x1024 .bf16) := rfl
theorem V1 : V m c main_v1 = (shapeCast S2x4096x1024 (m ((c.tc : Thread nD τ).loc main_arg1)) shapeCasts_S2x16384x256_S2x4096x1024 : FVec Ideal S2x4096x1024 .bf16) := rfl
theorem V2 : V m c main_v2 = (shapeCast S2x4096x1024 (m ((c.tc : Thread nD τ).loc main_arg1)) shapeCasts_S2x16384x256_S2x4096x1024 : FVec Ideal S2x4096x1024 .bf16) := rfl
theorem V3 : V m c main_v3 = (shapeCast S2x4096x1024 (m ((c.tc : Thread nD τ).loc main_arg2)) shapeCasts_S2x16384x256_S2x4096x1024 : FVec Ideal S2x4096x1024 .bf16) := rfl
theorem V4 : V m c main_v4 = (shapeCast S2x4096x1024 (m ((c.tc : Thread nD τ).loc main_arg2)) shapeCasts_S2x16384x256_S2x4096x1024 : FVec Ideal S2x4096x1024 .bf16) := rfl

/-! The place in its array of an element of each window's block. -/

theorem emb0 (n : Fin 1024) (l : Fin 256) : ((cfg0.win 0).blk t).view.emb (ix3 0 n l)
    = ix3 (part t) ⟨1024 * (tile t).val + n.val, by have := (tile t).isLt; omega⟩ ⟨256 * (lane t).val + l.val, by have := (lane t).isLt; omega⟩ := by
  funext a
  apply Fin.ext
  refine (Pipeline.Window.rect_emb_val win0_0 t (ix3 0 n l) a).trans ?_
  rw [index_tile t]
  fin_cases a
  · show (part t).val * 1 + 0 = (part t).val; omega
  · show (tile t).val * 1024 + n.val = 1024 * (tile t).val + n.val; omega
  · show (lane t).val * 256 + l.val = 256 * (lane t).val + l.val; omega

theorem emb1 (n : Fin 1024) (l : Fin 256) : ((cfg0.win 1).blk t).view.emb (ix3 0 n l)
    = ix3 (part t) ⟨1024 * (tile t).val + n.val, by have := (tile t).isLt; omega⟩ ⟨256 * (lane t).val + l.val, by have := (lane t).isLt; omega⟩ := emb0 t n l

theorem emb3 (n : Fin 1024) (l : Fin 256) : ((cfg0.win 3).blk t).view.emb (ix3 0 n l)
    = ix3 (part t) ⟨1024 * (tile t).val + n.val, by have := (tile t).isLt; omega⟩ ⟨256 * (lane t).val + l.val, by have := (lane t).isLt; omega⟩ := emb0 t n l

theorem emb5 (n : Fin 1024) (l : Fin 256) : ((cfg0.win 5).blk t).view.emb (ix3 0 n l)
    = ix3 (part t) ⟨1024 * (tile t).val + n.val, by have := (tile t).isLt; omega⟩ ⟨256 * (lane t).val + l.val, by have := (lane t).isLt; omega⟩ := emb0 t n l

theorem emb6 (n : Fin 1024) (l : Fin 256) : ((cfg0.win 6).blk t).view.emb (ix3 0 n l)
    = ix3 (part t) ⟨1024 * (tile t).val + n.val, by have := (tile t).isLt; omega⟩ ⟨256 * (lane t).val + l.val, by have := (lane t).isLt; omega⟩ := emb0 t n l

theorem emb2 (n : Fin 128) (l : Fin 256) : ((cfg0.win 2).blk t).view.emb (ix3 0 n l)
    = ix3 (part t) ⟨128 * (8 * (tile t).val - 1) + n.val, by have := (tile t).isLt; omega⟩ ⟨256 * (lane t).val + l.val, by have := (lane t).isLt; omega⟩ := by
  funext a
  apply Fin.ext
  refine (Pipeline.Window.rect_emb_val win0_2 t (ix3 0 n l) a).trans ?_
  rw [index_prev t]
  fin_cases a
  · show (part t).val * 1 + 0 = (part t).val; omega
  · show (8 * (tile t).val - 1) * 128 + n.val = 128 * (8 * (tile t).val - 1) + n.val; omega
  · show (lane t).val * 256 + l.val = 256 * (lane t).val + l.val; omega

theorem emb4 (n : Fin 128) (l : Fin 256) : ((cfg0.win 4).blk t).view.emb (ix3 0 n l)
    = ix3 (part t) ⟨128 * (8 * (tile t).val - 1) + n.val, by have := (tile t).isLt; omega⟩ ⟨256 * (lane t).val + l.val, by have := (lane t).isLt; omega⟩ := emb2 t n l

/-! What the five input blocks hold: rows of the sequence the point works on. -/

theorem blk0 (n : Fin 1024) (l : Fin 256) : iblk m c 0 t (ix3 0 n l)
    = AttnBlock.strand 4 (m ((c.tc : Thread nD τ).loc main_arg0)) (part t) (lane t).val (1024 * (tile t).val + n.val) l.val := by
  show V m c main_v0 (((cfg0.win 0).blk t).view.emb (ix3 0 n l)) = _
  rw [emb0, V0]
  exact laid_rows _ (part t) ⟨1024 * (tile t).val + n.val, by have := (tile t).isLt; omega⟩ (lane t) l

theorem blk1 (n : Fin 1024) (l : Fin 256) : iblk m c 1 t (ix3 0 n l)
    = AttnBlock.strand 4 (m ((c.tc : Thread nD τ).loc main_arg1)) (part t) (lane t).val (1024 * (tile t).val + n.val) l.val := by
  show V m c main_v1 (((cfg0.win 1).blk t).view.emb (ix3 0 n l)) = _
  rw [emb1, V1]
  exact laid_rows _ (part t) ⟨1024 * (tile t).val + n.val, by have := (tile t).isLt; omega⟩ (lane t) l

theorem blk3 (n : Fin 1024) (l : Fin 256) : iblk m c 3 t (ix3 0 n l)
    = AttnBlock.strand 4 (m ((c.tc : Thread nD τ).loc main_arg2)) (part t) (lane t).val (1024 * (tile t).val + n.val) l.val := by
  show V m c main_v3 (((cfg0.win 3).blk t).view.emb (ix3 0 n l)) = _
  rw [emb3, V3]
  exact laid_rows _ (part t) ⟨1024 * (tile t).val + n.val, by have := (tile t).isLt; omega⟩ (lane t) l

theorem blk2 (hj : (tile t).val ≠ 0) (n : Fin 128) (l : Fin 256) : iblk m c 2 t (ix3 0 n l)
    = AttnBlock.strand 4 (m ((c.tc : Thread nD τ).loc main_arg1)) (part t) (lane t).val (1024 * (tile t).val - 128 + n.val) l.val := by
  show V m c main_v2 (((cfg0.win 2).blk t).view.emb (ix3 0 n l)) = _
  rw [emb2, V2, show 1024 * (tile t).val - 128 + n.val = 128 * (8 * (tile t).val - 1) + n.val by omega]
  exact laid_rows _ (part t) ⟨128 * (8 * (tile t).val - 1) + n.val, by have := (tile t).isLt; omega⟩ (lane t) l

theorem blk4 (hj : (tile t).val ≠ 0) (n : Fin 128) (l : Fin 256) : iblk m c 4 t (ix3 0 n l)
    = AttnBlock.strand 4 (m ((c.tc : Thread nD τ).loc main_arg2)) (part t) (lane t).val (1024 * (tile t).val - 128 + n.val) l.val := by
  show V m c main_v4 (((cfg0.win 4).blk t).view.emb (ix3 0 n l)) = _
  rw [emb4, V4, show 1024 * (tile t).val - 128 + n.val = 128 * (8 * (tile t).val - 1) + n.val by omega]
  exact laid_rows _ (part t) ⟨128 * (8 * (tile t).val - 1) + n.val, by have := (tile t).isLt; omega⟩ (lane t) l

/-! ## The two results -/

/-- The reference's output on the launch's arguments. -/
def whole5 : FVec Ideal S2x4096x1024 .bf16 :=
  Attn4RefIdeal.Blocks.outOf (m ((c.tc : Thread nD τ).loc main_arg0)) (m ((c.tc : Thread nD τ).loc main_arg1)) (m ((c.tc : Thread nD τ).loc main_arg2))

/-- The reference's log-sum-exp on the launch's arguments. -/
def whole6 : FVec Ideal S2x4096x1024 .f32 :=
  Attn4RefIdeal.Blocks.lseOf (m ((c.tc : Thread nD τ).loc main_arg0)) (m ((c.tc : Thread nD τ).loc main_arg1))

theorem whole5_apply (r : Fin 4) (p : Fin 2) (h : Fin 4) (e : Fin 64) (n : Fin 4096) : whole5 m c (ix3 p n ⟨256 * r.val + (64 * h.val + e.val), by omega⟩)
    = AttnBlock.attend (AttnBlock.strand 4 (m ((c.tc : Thread nD τ).loc main_arg0)) p r.val) (AttnBlock.strand 4 (m ((c.tc : Thread nD τ).loc main_arg1)) p r.val) (AttnBlock.strand 4 (m ((c.tc : Thread nD τ).loc main_arg2)) p r.val) h.val n.val e.val :=
  Attn4RefIdeal.Blocks.outOf_apply r p h e (m ((c.tc : Thread nD τ).loc main_arg0)) (m ((c.tc : Thread nD τ).loc main_arg1)) (m ((c.tc : Thread nD τ).loc main_arg2)) n

theorem whole6_apply (r : Fin 4) (p : Fin 2) (h : Fin 4) (e : Fin 64) (n : Fin 4096) : whole6 m c (ix3 p n ⟨256 * r.val + (64 * h.val + e.val), by omega⟩)
    = AttnBlock.attendLse (AttnBlock.strand 4 (m ((c.tc : Thread nD τ).loc main_arg0)) p r.val) (AttnBlock.strand 4 (m ((c.tc : Thread nD τ).loc main_arg1)) p r.val) h.val n.val :=
  Attn4RefIdeal.Blocks.lseOf_apply r p h e (m ((c.tc : Thread nD τ).loc main_arg0)) (m ((c.tc : Thread nD τ).loc main_arg1)) n

/-- Every place of the grid is a point. -/
theorem point_of : ∀ (p : Fin 2) (j r : Fin 4), ∃ t : Fin cfg0.N, part t = p ∧ tile t = j ∧ lane t = r :=
  (by decide +kernel : ∀ (p : Fin 2) (j r : Fin 4), ∃ t : Fin grid0.N, part t = p ∧ tile t = j ∧ lane t = r)

/-- An entry of a point's block is the reference's. -/
theorem entry5 (n : Fin 1024) (h : Fin 4) (e : Fin 64) : (outsAt0 m c t).1 (ix3 0 n ⟨64 * h.val + e.val, by omega⟩)
    = whole5 m c (ix3 (part t) ⟨1024 * (tile t).val + n.val, by have := (tile t).isLt; omega⟩ ⟨256 * (lane t).val + (64 * h.val + e.val), by have := (lane t).isLt; omega⟩) := by
  rw [whole5_apply m c (lane t) (part t) h e ⟨1024 * (tile t).val + n.val, by have := (tile t).isLt; omega⟩, outs5]
  exact AttnBlock.tileOut_strand (View.whole cc0_scratch0) (View.whole cc0_scratch1) _ _ _ _ _ _ _ _ (tile t).val (by have := (tile t).isLt; omega) (blk0 m c t) (blk1 m c t) (blk2 m c t) (blk3 m c t) (blk4 m c t) n h e

theorem cut5 (X : FVec Ideal S1x1024x256 .bf16) (i : S1x1024x256.Idx) : (cfg0.win 5).cut (grid0.coords t) X i = X i := rfl

theorem read5 (G : FVec Ideal S2x4096x1024 .bf16) (i : S1x1024x256.Idx) :
    ((cfg0.win 5).blk t).view.read (Elt Ideal) G i = G (((cfg0.win 5).blk t).view.emb i) := rfl

/-- What point `t` writes back to this result is its block of the reference's. -/
theorem flushed5_eq : (dats m 0 c).flushed 5 t = ((cfg0.win 5).blk t).view.read (Elt Ideal) (whole5 m c) := by
  rw [Value.flushed5]
  funext i
  obtain ⟨n, h, e, hi⟩ := AttnBlock.tile_index i
  refine (cut5 t _ i).trans (Eq.trans ?_ (read5 t _ i).symm)
  rw [hi, emb5]
  exact entry5 m c t n h e

/-- The rows and columns of a point's block of a result. -/
theorem in_block (i : S2x4096x1024.Idx) : (∀ a, win0_5.index t a * win0_5.size a ≤ (i a).val ∧ (i a).val < win0_5.index t a * win0_5.size a + win0_5.size a) ↔ ((i 0).val = (part t).val ∧ (i 1).val / 1024 = (tile t).val ∧ (i 2).val / 256 = (lane t).val) := by
  have hx : win0_5.index t = ![(part t).val, (tile t).val, (lane t).val] := index_tile t
  have e0 : win0_5.index t 0 * win0_5.size 0 = (part t).val := by rw [hx]; show (part t).val * 1 = _; omega
  have e1 : win0_5.index t 1 * win0_5.size 1 = 1024 * (tile t).val := by rw [hx]; show (tile t).val * 1024 = _; omega
  have e2 : win0_5.index t 2 * win0_5.size 2 = 256 * (lane t).val := by rw [hx]; show (lane t).val * 256 = _; omega
  refine ⟨fun h => ?_, fun h a => ?_⟩
  · have h0 : win0_5.index t 0 * win0_5.size 0 ≤ (i 0).val ∧ (i 0).val < win0_5.index t 0 * win0_5.size 0 + 1 := h 0
    have h1 : win0_5.index t 1 * win0_5.size 1 ≤ (i 1).val ∧ (i 1).val < win0_5.index t 1 * win0_5.size 1 + 1024 := h 1
    have h2 : win0_5.index t 2 * win0_5.size 2 ≤ (i 2).val ∧ (i 2).val < win0_5.index t 2 * win0_5.size 2 + 256 := h 2
    rw [e0] at h0; rw [e1] at h1; rw [e2] at h2
    omega
  · match a with
    | ⟨0, _⟩ => show win0_5.index t 0 * win0_5.size 0 ≤ (i 0).val ∧ (i 0).val < win0_5.index t 0 * win0_5.size 0 + 1
                rw [e0]; omega
    | ⟨1, _⟩ => show win0_5.index t 1 * win0_5.size 1 ≤ (i 1).val ∧ (i 1).val < win0_5.index t 1 * win0_5.size 1 + 1024
                rw [e1]; omega
    | ⟨2, _⟩ => show win0_5.index t 2 * win0_5.size 2 ≤ (i 2).val ∧ (i 2).val < win0_5.index t 2 * win0_5.size 2 + 256
                rw [e2]; omega

theorem mem_blk5 (i : S2x4096x1024.Idx) : i ∈ ((cfg0.win 5).blk t).view.set ↔ ((i 0).val = (part t).val ∧ (i 1).val / 1024 = (tile t).val ∧ (i 2).val / 256 = (lane t).val) := by
  show i ∈ ((View.whole main_v5_0).slice (win0_5.rect t)).set ↔ _
  rw [View.set_slice_whole, Rect.mem_set_unit]
  exact in_block t i

/-- The result after the run is the reference's. -/
theorem final5 : (dats m 0 c).arrAt 5 cfg0.N = whole5 m c :=
  (dats m 0 c).arrAt_eq_of_cover 5 (whole5 m c) (fun t _ => flushed5_eq m c t) fun i => by
    obtain ⟨t, h0, h1, h2⟩ := point_of (i 0) ⟨(i 1).val / 1024, by have h : (i 1).val < 4096 := (i 1).isLt; omega⟩ ⟨(i 2).val / 256, by have h : (i 2).val < 1024 := (i 2).isLt; omega⟩
    exact ⟨t, flush0_5 t, (mem_blk5 t i).2 ⟨by rw [h0], by rw [h1], by rw [h2]⟩⟩

/-- An entry of a point's block is the reference's. -/
theorem entry6 (n : Fin 1024) (h : Fin 4) (e : Fin 64) : (outsAt0 m c t).2 (ix3 0 n ⟨64 * h.val + e.val, by omega⟩)
    = whole6 m c (ix3 (part t) ⟨1024 * (tile t).val + n.val, by have := (tile t).isLt; omega⟩ ⟨256 * (lane t).val + (64 * h.val + e.val), by have := (lane t).isLt; omega⟩) := by
  rw [whole6_apply m c (lane t) (part t) h e ⟨1024 * (tile t).val + n.val, by have := (tile t).isLt; omega⟩, outs6]
  exact AttnBlock.tileLse_strand (View.whole cc0_scratch0) _ _ _ _ _ (tile t).val (by have := (tile t).isLt; omega) (blk0 m c t) (blk1 m c t) (blk2 m c t) n h e

theorem cut6 (X : FVec Ideal S1x1024x256 .f32) (i : S1x1024x256.Idx) : (cfg0.win 6).cut (grid0.coords t) X i = X i := rfl

theorem read6 (G : FVec Ideal S2x4096x1024 .f32) (i : S1x1024x256.Idx) :
    ((cfg0.win 6).blk t).view.read (Elt Ideal) G i = G (((cfg0.win 6).blk t).view.emb i) := rfl

/-- What point `t` writes back to this result is its block of the reference's. -/
theorem flushed6_eq : (dats m 0 c).flushed 6 t = ((cfg0.win 6).blk t).view.read (Elt Ideal) (whole6 m c) := by
  rw [Value.flushed6]
  funext i
  obtain ⟨n, h, e, hi⟩ := AttnBlock.tile_index i
  refine (cut6 t _ i).trans (Eq.trans ?_ (read6 t _ i).symm)
  rw [hi, emb6]
  exact entry6 m c t n h e

theorem mem_blk6 (i : S2x4096x1024.Idx) : i ∈ ((cfg0.win 6).blk t).view.set ↔ ((i 0).val = (part t).val ∧ (i 1).val / 1024 = (tile t).val ∧ (i 2).val / 256 = (lane t).val) := by
  show i ∈ ((View.whole main_v5_1).slice (win0_6.rect t)).set ↔ _
  rw [View.set_slice_whole, Rect.mem_set_unit]
  exact in_block t i

/-- The result after the run is the reference's. -/
theorem final6 : (dats m 0 c).arrAt 6 cfg0.N = whole6 m c :=
  (dats m 0 c).arrAt_eq_of_cover 6 (whole6 m c) (fun t _ => flushed6_eq m c t) fun i => by
    obtain ⟨t, h0, h1, h2⟩ := point_of (i 0) ⟨(i 1).val / 1024, by have h : (i 1).val < 4096 := (i 1).isLt; omega⟩ ⟨(i 2).val / 256, by have h : (i 2).val < 1024 := (i 2).isLt; omega⟩
    exact ⟨t, flush0_6 t, (mem_blk6 t i).2 ⟨by rw [h0], by rw [h1], by rw [h2]⟩⟩

/-- The kernel's run: its two results are the reference's functions of the arguments, which stay. -/
theorem run : θ_run defs (onTc (τ := τ) (main (F := Ideal))) ⟨m, fun _ => 0, ρ⟩ fun r => ∀ c : Dev nD,
      r.2.mem ((c.tc : Thread nD τ).loc main_v5_0) = whole5 m c
      ∧ r.2.mem ((c.tc : Thread nD τ).loc main_v5_1) = whole6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (final5 m c), (h c).2.1.trans (final6 m c), (h c).2.2⟩) (Value.run_blocks m ρ)

end Cert.Attn4Ideal.Blocks
-- ==== Proof.AttnClaim.lean ====
/- The claims about the attention at dilation 4, from the two runs. -/
module

public import proofs.«01_k».proof.Defs
public import proofs.«01_k».proof.Proof.AttnRun4
public import proofs.«01_k».proof.Proof.Gen.Attn4
public import proofs.«01_k».proof.Proof.Gen.Attn4.Frame

@[expose] public section

noncomputable section

namespace Cert.Attention

open Idealize.ShloMosaic Idealize.SL.Sem

/-- The kernel runs, leaves its arguments and ends with its counters at zero. -/
theorem frame : Cert.quiescent_Attn4 := fun m ρ _ => Cert.Attn4.Gen.frame m ρ

/-- So does its ideal form. -/
theorem frameIdeal : Cert.quiescent_Attn4Ideal := fun m ρ _ => Cert.Attn4Ideal.Gen.frame m ρ

/-- So does the reference, which has no counter. -/
theorem frameRef : Cert.quiescent_Attn4RefIdeal := fun m ρ _ =>
  (θ_run Cert.Attn4RefIdeal.defs _ _).mono
    (fun r h => ⟨fun c => (h c).2.2, sem_eq_zero_of_no_sems (by decide) r.2⟩)
    (Cert.Attn4RefIdeal.Value.run (F := Ideal) m ρ)

/-- The ideal form differs in the one constant the mask is written with, read as minus infinity. -/
theorem preserves : Cert.preserves_Attn4_Attn4Ideal :=
  IdealRules.named_const.statement Cert.Attn4Ideal.κ "mask" .f32 0xF149F2CA#32 ⊥ rfl

/-- The kernel's outputs and log-sum-exps are the reference's, on every argument. -/
theorem algebraic : Cert.algebraic_Attn4Ideal_Attn4RefIdeal := by
  intro m ρ m' ρ' _ same
  refine ⟨fun c => Cert.Attn4Ideal.Blocks.whole5 m c, fun c => Cert.Attn4Ideal.Blocks.whole6 m c, Cert.Attn4Ideal.Blocks.run m ρ, ?_⟩
  refine (θ_run Cert.Attn4RefIdeal.defs _ _).mono (fun _ h c => ⟨(h c).1.trans ?_, (h c).2.1.trans ?_, (h c).2.2⟩)
    (Cert.Attn4RefIdeal.Value.run (F := Ideal) m' ρ')
  · refine (Cert.Attn4RefIdeal.Blocks.res0 m' c).trans ?_
    unfold Cert.Attn4Ideal.Blocks.whole5
    rw [(same c).1, (same c).2.1, (same c).2.2]
  · refine (Cert.Attn4RefIdeal.Blocks.res1 m' c).trans ?_
    unfold Cert.Attn4Ideal.Blocks.whole6
    rw [(same c).1, (same c).2.1]

end Cert.Attention

end
-- ==== Proof.MlpTile.lean ====
/- What the kernel stores for a block of 512 rows, row by row. -/
module

public import proofs.«01_k».proof.Proof.Gen.MlpIdeal.Frame
public import Idealize.ShloMosaic.Lib.Pointwise
public import Idealize.ShloMosaic.Lib.Pipeline.Value

@[expose] public section

set_option maxRecDepth 16384

noncomputable section

namespace Cert.MlpRow

open Cert.MlpIdeal Cert.MlpIdeal.Gen Idealize.ShloMosaic Idealize.ShloMosaic.TcCoe

/-! ## One row of the layer's last part -/

/-- Three outputs merged by the logarithms of their softmax denominators. -/
def merge (l1 l2 l3 o1 o2 o3 : EReal) : EReal :=
  Ideal.div ((Ideal.exp (l1 - max (max l1 l2) l3) * o1 + Ideal.exp (l2 - max (max l1 l2) l3) * o2) + Ideal.exp (l3 - max (max l1 l2) l3) * o3)
    ((Ideal.exp (l1 - max (max l1 l2) l3) + Ideal.exp (l2 - max (max l1 l2) l3)) + Ideal.exp (l3 - max (max l1 l2) l3))

/-- A row over its root mean square, times a gain; `c` is the row's length. -/
def norm {n : ℕ} (c : EReal) (x g : Fin n → EReal) (k : Fin n) : EReal :=
  x k * Ideal.rsqrt (Ideal.div (∑ j, x j * x j) c + Ideal.ofBits .f32 0x358637BD#32) * g k

/-- The attention's 512 channels, then the scan's. -/
def both (a s : Fin 512 → EReal) (k : Fin 1024) : EReal := if h : k.val < 512 then a ⟨k.val, h⟩ else s ⟨k.val - 512, by omega⟩

/-- A row plus a row times a matrix. -/
def plus (x a : Fin 1024 → EReal) (w : Fin 1024 → Fin 1024 → EReal) (k : Fin 1024) : EReal := x k + ∑ j, a j * w j k

/-- The squared positive part of a hidden unit, times its weight to an output channel. -/
def unit (a : Fin 1024 → EReal) (up : Fin 1024 → EReal) (dn : EReal) : EReal := max (∑ j, a j * up j) 0 * max (∑ j, a j * up j) 0 * dn

/-- A row after the MLP, from the row before it and the row's norm. -/
def mlp (x a : Fin 1024 → EReal) (up : Fin 1024 → Fin 4096 → EReal) (dn : Fin 4096 → Fin 1024 → EReal) (k : Fin 1024) : EReal :=
  x k + ∑ f, unit a (fun j => up j f) (dn f k)

/-! ## The kernel's stages -/

/-- Two halves of a block's channels side by side. -/
def cat (x : Vec Ideal S2x512x256 .f32) : FVec Ideal S512x512 .f32 :=
  concatenate S512x512 1 [⟨S512x256, shapeCast S512x256 (View.ld x r0_0) shapeCasts_S1x512x256_S512x256⟩,
    ⟨S512x256, shapeCast S512x256 (View.ld x r0_1) shapeCasts_S1x512x256_S512x256⟩] concatenates_S512x256_S512x256_S512x512_d1

/-- The same of an array of outputs. -/
def catB (x : Vec Ideal S2x512x256 .bf16) : FVec Ideal S512x512 .f32 :=
  extf .f32 (concatenate S512x512 1 [⟨S512x256, (shapeCast S512x256 (View.ld x r0_0) shapeCasts_S1x512x256_S512x256 : FVec Ideal S512x256 .bf16)⟩,
    ⟨S512x256, (shapeCast S512x256 (View.ld x r0_1) shapeCasts_S1x512x256_S512x256 : FVec Ideal S512x256 .bf16)⟩] concatenates_S512x256_S512x256_S512x512_d1) bitsLt_bf16_f32

/-- A pattern's weight: the exponential of its logarithm less the largest of the three. -/
def weight (l l1 l2 l3 : FVec Ideal S512x512 .f32) : FVec Ideal S512x512 .f32 := exp (subf l (maximumf (maximumf l1 l2) l3))

/-- The three outputs merged. -/
def merged (l1 l2 l3 o1 o2 o3 : FVec Ideal S512x512 .f32) : FVec Ideal S512x512 .f32 :=
  divf (addf (addf (mulf (weight l1 l1 l2 l3) o1) (mulf (weight l2 l1 l2 l3) o2)) (mulf (weight l3 l1 l2 l3) o3))
    (addf (addf (weight l1 l1 l2 l3) (weight l2 l1 l2 l3)) (weight l3 l1 l2 l3))

/-- A block's rows of 512 channels, each over its root mean square. -/
def normed (a : FVec Ideal S512x512 .f32) (g : Vec Ideal S1x512 .f32) : FVec Ideal S512x512 .f32 :=
  mulf (mulf a (broadcastTo S512x512 (rsqrt (addf (divf (shapeCast S512x1 (multiReduction .add [1] S512 (mulf a a) 0x00000000#32 reduces_S512x512_S512 (.inl rfl) rfl) shapeCasts_S512_S512x1)
    (broadcast S512x1 (Scalar.ofBits .f32 0x44000000#32))) (broadcast S512x1 (Scalar.ofBits .f32 0x358637BD#32)))) broadcasts_S512x1_S512x512))
    (broadcastTo S512x512 (shapeCast S1x512 g shapeCasts_S1x512_S1x512) broadcasts_S1x512_S512x512)

/-- The residual plus the two halves times the output matrix. -/
def middle (a : FVec Ideal S512x512 .f32) (s : Vec Ideal S512x512 .bf16) (x : Vec Ideal S512x1024 .f32) (w : Vec Ideal S1024x1024 .bf16) : FVec Ideal S512x1024 .f32 :=
  addf x (matmul dot_S512x1024_S1024x1024_S512x1024_1_0_0_1_n_n none
    (concatenate S512x1024 1 [⟨S512x512, truncf .bf16 a bitsLt_bf16_f32⟩, ⟨S512x512, s⟩] concatenates_S512x512_S512x512_S512x1024_d1 : FVec Ideal S512x1024 .bf16)
    (shapeCast S1024x1024 w shapeCasts_S1024x1024_S1024x1024 : FVec Ideal S1024x1024 .bf16) (constant S512x1024 .f32 0x00000000#32))

/-- What 1024 hidden units add. -/
def quarter (a : FVec Ideal S512x1024 .bf16) (up dn : Vec Ideal S1024x1024 .bf16) : FVec Ideal S512x1024 .f32 :=
  matmul dot_S512x1024_S1024x1024_S512x1024_1_0_0_1_n_n none
    (truncf .bf16 (mulf
      (maximumf (matmul dot_S512x1024_S1024x1024_S512x1024_1_0_0_1_n_n none a (shapeCast S1024x1024 up shapeCasts_S1024x1024_S1024x1024 : FVec Ideal S1024x1024 .bf16) (constant S512x1024 .f32 0x00000000#32)) (broadcast S512x1024 (Scalar.ofBits .f32 0x00000000#32)))
      (maximumf (matmul dot_S512x1024_S1024x1024_S512x1024_1_0_0_1_n_n none a (shapeCast S1024x1024 up shapeCasts_S1024x1024_S1024x1024 : FVec Ideal S1024x1024 .bf16) (constant S512x1024 .f32 0x00000000#32)) (broadcast S512x1024 (Scalar.ofBits .f32 0x00000000#32)))) bitsLt_bf16_f32)
    (shapeCast S1024x1024 dn shapeCasts_S1024x1024_S1024x1024 : FVec Ideal S1024x1024 .bf16) (constant S512x1024 .f32 0x00000000#32)

variable (x0 : Vec Ideal S512x1024 .f32) (x1 x2 x3 : Vec Ideal S2x512x256 .bf16) (x4 x5 x6 : Vec Ideal S2x512x256 .f32) (x7 : Vec Ideal S512x512 .bf16) (x8 : Vec Ideal S1x512 .f32)
  (x9 : Vec Ideal S1024x1024 .bf16) (x10 : Vec Ideal S1x1024 .f32) (x11 : Vec Ideal S1024x4096 .bf16) (x12 : Vec Ideal S4096x1024 .bf16)

/-- The block before the MLP. -/
def mid : FVec Ideal S512x1024 .f32 :=
  middle (normed (merged (cat x4) (cat x5) (cat x6) (catB x1) (catB x2) (catB x3)) (View.ld x8 r0_2)) (View.ld x7 r0_3) (View.ld x0 r0_4) (View.ld x9 r0_5)

theorem mid_eq : k0_pay15 x0 x1 x2 x3 x4 x5 x6 x7 x8 x9 x10 x11 x12 = mid x0 x1 x2 x3 x4 x5 x6 x7 x8 x9 := by
  unfold k0_pay15 mid
  rfl

/-- The block's last sum: the rows, then four quarters of the hidden units. -/
def stored (v : FVec Ideal S512x1024 .f32) (a : FVec Ideal S512x1024 .bf16) : FVec Ideal S512x1024 .f32 :=
  addf (addf (addf (addf v (quarter a (View.ld x11 r0_7) (View.ld x12 r0_8))) (quarter a (View.ld x11 r0_9) (View.ld x12 r0_10)))
    (quarter a (View.ld x11 r0_11) (View.ld x12 r0_12))) (quarter a (View.ld x11 r0_13) (View.ld x12 r0_14))

theorem stored_eq (v : FVec Ideal S512x1024 .f32) : k0_pay1 (k0_pay12 v (View.ld x10 r0_6)) (k0_pay13 v (View.ld x10 r0_6) (View.ld x11 r0_7) (View.ld x12 r0_8) (View.ld x11 r0_9) (View.ld x12 r0_10))
    (k0_pay14 (View.ld x11 r0_11)) (View.ld x12 r0_12) (View.ld x11 r0_13) (View.ld x12 r0_14) = stored x11 x12 v (k0_pay12 v (View.ld x10 r0_6)) := by
  unfold k0_pay1 k0_pay13 k0_pay14 stored quarter
  rfl

/-! ## The stages read at an index -/

theorem addf_ix {s : Shape} {φ : FTy} (x y : FVec Ideal s φ) (i : s.Idx) : addf x y i = x i + y i := rfl

variable (n : Fin 512) (c : Fin 512) (k : Fin 1024)

theorem cat_apply : cat x4 (ix2 n c) = x4 (ix3 ⟨c.val / 256, by omega⟩ n ⟨c.val % 256, by omega⟩) := by
  pointwise [cat]
  have := c.isLt
  by_cases h : c.val < 256
  · rw [dif_pos h]
    congr 1
    apply congrArg₂ (fun u v => ix3 u n v) <;> ext <;> simp <;> omega
  · rw [dif_neg h]
    congr 1
    apply congrArg₂ (fun u v => ix3 u n v) <;> ext <;> simp <;> omega

theorem catB_apply : catB x1 (ix2 n c) = x1 (ix3 ⟨c.val / 256, by omega⟩ n ⟨c.val % 256, by omega⟩) := by
  pointwise [catB]
  have := c.isLt
  by_cases h : c.val < 256
  · rw [dif_pos h]
    congr 1
    apply congrArg₂ (fun u v => ix3 u n v) <;> ext <;> simp <;> omega
  · rw [dif_neg h]
    congr 1
    apply congrArg₂ (fun u v => ix3 u n v) <;> ext <;> simp <;> omega

theorem merged_apply (l1 l2 l3 o1 o2 o3 : FVec Ideal S512x512 .f32) :
    merged l1 l2 l3 o1 o2 o3 (ix2 n c) = merge (l1 (ix2 n c)) (l2 (ix2 n c)) (l3 (ix2 n c)) (o1 (ix2 n c)) (o2 (ix2 n c)) (o3 (ix2 n c)) := by
  pointwise [merged, weight, merge]

theorem normed_apply (a : FVec Ideal S512x512 .f32) (g : Vec Ideal S1x512 .f32) :
    normed a g (ix2 n c) = norm (Ideal.ofBits .f32 0x44000000#32) (fun c => a (ix2 n c)) (fun c => g (ix2 0 c)) c := by
  pointwise [normed, norm]

theorem normed2_apply (a : FVec Ideal S512x1024 .f32) (g : Vec Ideal S1x1024 .f32) :
    k0_pay12 a g (ix2 n k) = norm (Ideal.ofBits .f32 0x44800000#32) (fun c => a (ix2 n c)) (fun c => g (ix2 0 c)) k := by
  pointwise [k0_pay12, norm]

theorem middle_apply (a : FVec Ideal S512x512 .f32) (s : Vec Ideal S512x512 .bf16) (x : Vec Ideal S512x1024 .f32) (w : Vec Ideal S1024x1024 .bf16) :
    middle a s x w (ix2 n k) = plus (fun k => x (ix2 n k)) (both (fun c => a (ix2 n c)) (fun c => s (ix2 n c))) (fun j k => w (ix2 j k)) k := by
  pointwise [middle, plus, both]

theorem quarter_apply (a : FVec Ideal S512x1024 .bf16) (up dn : Vec Ideal S1024x1024 .bf16) :
    quarter a up dn (ix2 n k) = ∑ f, unit (fun j => a (ix2 n j)) (fun j => up (ix2 j f)) (dn (ix2 f k)) := by
  pointwise [quarter, unit]

/-! ## The stored block -/

/-- A hidden unit's addition to an output channel, from the two weight matrices. -/
abbrev share (a : Fin 1024 → EReal) (k : Fin 1024) (f : Fin 4096) : EReal := unit a (fun j => x11 (ix2 j f)) (x12 (ix2 f k))

theorem quarter0 (a : FVec Ideal S512x1024 .bf16) : quarter a (View.ld x11 r0_7) (View.ld x12 r0_8) (ix2 n k)
    = ∑ f : Fin 1024, share x11 x12 (fun j => a (ix2 n j)) k ⟨0 * 1024 + f.val, by omega⟩ := by
  rw [quarter_apply]; pointwise
theorem quarter1 (a : FVec Ideal S512x1024 .bf16) : quarter a (View.ld x11 r0_9) (View.ld x12 r0_10) (ix2 n k)
    = ∑ f : Fin 1024, share x11 x12 (fun j => a (ix2 n j)) k ⟨1 * 1024 + f.val, by omega⟩ := by
  rw [quarter_apply]; pointwise
theorem quarter2 (a : FVec Ideal S512x1024 .bf16) : quarter a (View.ld x11 r0_11) (View.ld x12 r0_12) (ix2 n k)
    = ∑ f : Fin 1024, share x11 x12 (fun j => a (ix2 n j)) k ⟨2 * 1024 + f.val, by omega⟩ := by
  rw [quarter_apply]; pointwise
theorem quarter3 (a : FVec Ideal S512x1024 .bf16) : quarter a (View.ld x11 r0_13) (View.ld x12 r0_14) (ix2 n k)
    = ∑ f : Fin 1024, share x11 x12 (fun j => a (ix2 n j)) k ⟨3 * 1024 + f.val, by omega⟩ := by
  rw [quarter_apply]; pointwise

/-- The four quarters are one sum over the hidden units. -/
theorem stored_apply (v : FVec Ideal S512x1024 .f32) (a : FVec Ideal S512x1024 .bf16) : stored x11 x12 v a (ix2 n k)
    = mlp (fun k => v (ix2 n k)) (fun k => a (ix2 n k)) (fun j f => x11 (ix2 j f)) (fun f k => x12 (ix2 f k)) k := by
  unfold stored mlp
  rw [addf_ix, addf_ix, addf_ix, addf_ix, quarter0, quarter1, quarter2, quarter3, Fin.sum_univ_tiles 4 1024 rfl, Fin.sum_univ_four, ← add_assoc, ← add_assoc, ← add_assoc]
  rfl

/-- The attention's channels of a row: three outputs merged and normed. -/
def attended (g : Fin 512 → EReal) (l1 l2 l3 o1 o2 o3 : Fin 512 → EReal) : Fin 512 → EReal :=
  norm (Ideal.ofBits .f32 0x44000000#32) (fun c => merge (l1 c) (l2 c) (l3 c) (o1 c) (o2 c) (o3 c)) g

/-- The norm before the MLP. -/
def normed2 (x g : Fin 1024 → EReal) : Fin 1024 → EReal := norm (Ideal.ofBits .f32 0x44800000#32) x g

/-- A row of a block's channels: the first 256 lie in its first half. -/
abbrev row {N : ℕ} (x : (⟨3, ![2, N, 256]⟩ : Shape).Idx → EReal) (n : Fin N) (c : Fin 512) : EReal := x (ix3 ⟨c.val / 256, by omega⟩ n ⟨c.val % 256, by omega⟩)

theorem hz2 : (![0, 0] : Fin 2 → Nat) = fun _ => 0 := funext fun a => by fin_cases a <;> rfl

/-! A load of a whole block is the block. -/

theorem whole0 : View.ld x0 r0_4 = x0 := View.ld_unit_zero (S := S512x1024) hz2 _ x0
theorem whole7 : View.ld x7 r0_3 = x7 := View.ld_unit_zero (S := S512x512) hz2 _ x7
theorem whole8 : View.ld x8 r0_2 = x8 := View.ld_unit_zero (S := S1x512) hz2 _ x8
theorem whole9 : View.ld x9 r0_5 = x9 := View.ld_unit_zero (S := S1024x1024) hz2 _ x9
theorem whole10 : View.ld x10 r0_6 = x10 := View.ld_unit_zero (S := S1x1024) hz2 _ x10

theorem mid_apply : mid x0 x1 x2 x3 x4 x5 x6 x7 x8 x9 (ix2 n k)
    = plus (fun k => x0 (ix2 n k)) (both (attended (fun c => x8 (ix2 0 c)) (row x4 n) (row x5 n) (row x6 n) (row x1 n) (row x2 n) (row x3 n)) (fun c => x7 (ix2 n c))) (fun j k => x9 (ix2 j k)) k := by
  unfold mid
  rw [whole0, whole7, whole8, whole9, middle_apply]
  simp only [normed_apply, merged_apply, cat_apply, catB_apply]
  rfl

/-- The block the kernel stores, row by row. -/
theorem out_apply : out0_13 x0 x1 x2 x3 x4 x5 x6 x7 x8 x9 x10 x11 x12 (ix2 n k)
    = mlp (fun k => mid x0 x1 x2 x3 x4 x5 x6 x7 x8 x9 (ix2 n k)) (normed2 (fun k => mid x0 x1 x2 x3 x4 x5 x6 x7 x8 x9 (ix2 n k)) (fun k => x10 (ix2 0 k)))
      (fun j f => x11 (ix2 j f)) (fun f k => x12 (ix2 f k)) k := by
  unfold out0_13
  rw [View.canon_cons_unit_zero (S := S512x1024) hz2, mid_eq, stored_eq, whole10, stored_apply]
  simp only [normed2_apply]
  rfl

end Cert.MlpRow

end
-- ==== Proof.MlpRef.lean ====
/- The reference's last part of the layer, row by row. -/
module

public import proofs.«01_k».proof.Proof.MlpTile
public import proofs.«01_k».proof.Proof.Gen.MlpRefIdeal.Run
public import Idealize.ShloMosaic.Lib.Pointwise

@[expose] public section

set_option maxRecDepth 16384

noncomputable section

namespace Cert.MlpRefIdeal.Rows

open Cert.MlpRefIdeal Cert.MlpRefIdeal.Gen Cert.MlpRefIdeal.Value Idealize.ShloMosaic Idealize.ShloMosaic.TcCoe Idealize.ShloMosaic.StableHlo Idealize.SL.Sem
open Cert.MlpRow (merge norm both plus unit mlp attended normed2 row)

/-! ## The stages of the reference, named -/

/-- An array's channels laid out along the sequence. -/
def seqOf (x : FVec Ideal S2x16384x256 .f32) : FVec Ideal S1x16384x512 .f32 :=
  broadcastInDim S1x16384x512 ![1, 2] bcast_S16384x512_S1x16384x512_1_2 (shapeCast S16384x512 (transpose S16384x2x256 [1, 0, 2] x transposes_S2x16384x256_S16384x2x256_1_0_2) shapeCasts_S16384x2x256_S16384x512)

/-- Three of them stacked. -/
def stack3 (a b c : FVec Ideal S1x16384x512 .f32) : FVec Ideal S3x16384x512 .f32 :=
  concatenate S3x16384x512 0 [⟨S1x16384x512, a⟩, ⟨S1x16384x512, b⟩, ⟨S1x16384x512, c⟩] concatenates_S1x16384x512_S1x16384x512_S1x16384x512_S3x16384x512_d0

/-- The exponentials of three logarithms less their largest. -/
def weights (l : FVec Ideal S3x16384x512 .f32) : FVec Ideal S3x16384x512 .f32 :=
  Host.exp (subf l (broadcastInDim S3x16384x512 ![0, 1, 2] bcast_S1x16384x512_S3x16384x512_0_1_2 (broadcastInDim S1x16384x512 ![1, 2] bcast_S16384x512_S1x16384x512_1_2
    (Host.reduce FloatOps.maximumf l (constant S_ .f32 0xFF800000#32) reducesTo_S3x16384x512_S16384x512_d0 h_S_))))

/-- The merged outputs. -/
def merged (l o : FVec Ideal S3x16384x512 .f32) : FVec Ideal S16384x512 .f32 :=
  Host.divf (Host.reduceAdd (mulf o (weights l)) (constant S_ .f32 0x00000000#32) reducesTo_S3x16384x512_S16384x512_d0 h_S_)
    (Host.reduceAdd (weights l) (constant S_ .f32 0x00000000#32) reducesTo_S3x16384x512_S16384x512_d0 h_S_)

/-- The rows of 512 channels, each over its root mean square. -/
def normA (a : FVec Ideal S16384x512 .f32) (g : FVec Ideal S512 .f32) : FVec Ideal S16384x512 .f32 :=
  mulf (mulf a (broadcastInDim S16384x512 ![0, 1] bcast_S16384x1_S16384x512_0_1 (Host.rsqrt (addf (Host.divf (broadcastInDim S16384x1 ![0] bcast_S16384_S16384x1_0
    (Host.reduceAdd (mulf a a) (constant S_ .f32 0x00000000#32) reducesTo_S16384x512_S16384_d1 h_S_)) (broadcastInDim S16384x1 ![] bcast_S_S16384x1 (constant S_ .f32 0x44000000#32)))
      (broadcastInDim S16384x1 ![] bcast_S_S16384x1 (constant S_ .f32 0x358637BD#32))))))
    (broadcastInDim S16384x512 ![0, 1] bcast_S1x512_S16384x512_0_1 (broadcastInDim S1x512 ![1] bcast_S512_S1x512_1 g))

/-- The rows of 1024 channels, each over its root mean square. -/
def normB (a : FVec Ideal S16384x1024 .f32) (g : FVec Ideal S1024 .f32) : FVec Ideal S16384x1024 .f32 :=
  mulf (mulf a (broadcastInDim S16384x1024 ![0, 1] bcast_S16384x1_S16384x1024_0_1 (Host.rsqrt (addf (Host.divf (broadcastInDim S16384x1 ![0] bcast_S16384_S16384x1_0
    (Host.reduceAdd (mulf a a) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The residual plus the attention's and the scan's channels times the output matrix. -/
def middle (a : FVec Ideal S16384x512 .f32) (s : FVec Ideal S16384x512 .bf16) (x : FVec Ideal S16384x1024 .f32) (w : FVec Ideal S1024x1024 .f32) : FVec Ideal S16384x1024 .f32 :=
  addf x (Host.dotGeneral dot_S16384x1024_S1024x1024_S16384x1024_1_0_0_1_n_n none
    (concatenate S16384x1024 1 [⟨S16384x512, a⟩, ⟨S16384x512, extf .f32 s bitsLt_bf16_f32⟩] concatenates_S16384x512_S16384x512_S16384x1024_d1 : FVec Ideal S16384x1024 .f32) w)

/-- The hidden units' positive parts. -/
def hidden (a : FVec Ideal S16384x1024 .f32) (w : FVec Ideal S1024x4096 .f32) : FVec Ideal S16384x4096 .f32 :=
  maximumf (Host.dotGeneral dot_S16384x1024_S1024x4096_S16384x4096_1_0_0_1_n_n none a w) (broadcastInDim S16384x4096 ![] bcast_S_S16384x4096 (constant S_ .f32 0x00000000#32))

/-- The rows plus the squared hidden units times the second matrix. -/
def last (x : FVec Ideal S16384x1024 .f32) (h : FVec Ideal S16384x4096 .f32) (w : FVec Ideal S4096x1024 .f32) : FVec Ideal S16384x1024 .f32 :=
  addf x (Host.dotGeneral dot_S16384x4096_S4096x1024_S16384x1024_1_0_0_1_n_n none (mulf h h) w)

variable (x0 : FVec Ideal S16384x1024 .f32) (x1 x2 x3 : FVec Ideal S2x16384x256 .bf16) (x4 x5 x6 : FVec Ideal S2x16384x256 .f32) (x7 : FVec Ideal S16384x512 .bf16) (x8 : FVec Ideal S512 .f32)
  (x9 : FVec Ideal S1024x1024 .f32) (x10 : FVec Ideal S1024 .f32) (x11 : FVec Ideal S1024x4096 .f32) (x12 : FVec Ideal S4096x1024 .f32)

/-- The rows before the MLP. -/
def mid : FVec Ideal S16384x1024 .f32 :=
  middle (normA (merged (stack3 (seqOf x4) (seqOf x5) (seqOf x6)) (stack3 (seqOf (extf .f32 x1 bitsLt_bf16_f32)) (seqOf (extf .f32 x2 bitsLt_bf16_f32)) (seqOf (extf .f32 x3 bitsLt_bf16_f32)))) x8) x7 x0 x9

/-- The reference's result. -/
def resultOf : FVec Ideal S16384x1024 .f32 :=
  last (mid x0 x1 x2 x3 x4 x5 x6 x7 x8 x9) (hidden (normB (mid x0 x1 x2 x3 x4 x5 x6 x7 x8 x9) x10) x11) x12

variable (V : Valuation τ sig (Elt Ideal))

theorem v48_eq : res_main_v48 V = mid (V (Proc.devRef .tc main_arg0)) (V (Proc.devRef .tc main_arg1)) (V (Proc.devRef .tc main_arg2)) (V (Proc.devRef .tc main_arg3)) (V (Proc.devRef .tc main_arg4)) (V (Proc.devRef .tc main_arg5))
    (V (Proc.devRef .tc main_arg6)) (V (Proc.devRef .tc main_arg7)) (V (Proc.devRef .tc main_arg8)) (V (Proc.devRef .tc main_arg9)) := by
  unfold res_main_v48 res_main_v31 res_main_v14 res_main_v9 mid middle normA merged weights stack3 seqOf
  rfl

theorem v63_eq : res_main_v63 V = hidden (normB (res_main_v48 V) (V (Proc.devRef .tc main_arg10))) (V (Proc.devRef .tc main_arg11)) := by
  unfold res_main_v63 hidden normB
  rfl

/-- What the run leaves, in the arguments. -/
theorem result_eq (m : (ℓ : Loc nD τ sig) → Buf (Elt Ideal) ℓ) (c : Dev nD) :
    addf (φ := .f32) (s := S16384x1024) (res_main_v48 (launchContents m c)) (Host.dotGeneral (F := Ideal) (φ₁ := .f32) (φ₂ := .f32) dot_S16384x4096_S4096x1024_S16384x1024_1_0_0_1_n_n none
      (mulf (φ := .f32) (s := S16384x4096) (res_main_v63 (launchContents m c)) (res_main_v63 (launchContents m c))) ((launchContents m c) (Proc.devRef .tc main_arg12)))
      = resultOf (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) (m ((c.tc : Thread nD τ).loc main_arg12)) := by
  rw [v63_eq, v48_eq]
  rfl

/-! ## The stages read at an index -/

variable (n : Fin 16384) (c : Fin 512) (k : Fin 1024) (f : Fin 4096)

theorem seqOf_apply : seqOf x4 (ix3 0 n c) = row x4 n c := by
  pointwise [seqOf]

theorem stack3_0 (a b d : FVec Ideal S1x16384x512 .f32) : stack3 a b d (ix3 0 n c) = a (ix3 0 n c) := by pointwise [stack3]
theorem stack3_1 (a b d : FVec Ideal S1x16384x512 .f32) : stack3 a b d (ix3 1 n c) = b (ix3 0 n c) := by pointwise [stack3]
theorem stack3_2 (a b d : FVec Ideal S1x16384x512 .f32) : stack3 a b d (ix3 2 n c) = d (ix3 0 n c) := by pointwise [stack3]

theorem ofBits_neg_inf : Ideal.ofBits FTy.f32 0xFF800000#32 = ⊥ := by simp [Ideal.ofBits, Ideal.ieee]

/-- The largest of three. -/
theorem fold_three (s : Fin 3 → EReal) : Finset.univ.fold max ⊥ s = max (max (s 0) (s 1)) (s 2) := by
  have h : (Finset.univ : Finset (Fin 3)) = {0, 1, 2} := by decide
  rw [h, Finset.fold_insert (by decide), Finset.fold_insert (by decide), Finset.fold_singleton, max_bot_right, max_assoc]

theorem weights_apply (l : FVec Ideal S3x16384x512 .f32) (i : Fin 3) : weights l (ix3 i n c)
    = Ideal.exp (l (ix3 i n c) - max (max (l (ix3 0 n c)) (l (ix3 1 n c))) (l (ix3 2 n c))) := by
  pointwise [weights]
  rw [ofBits_neg_inf, fold_three]

theorem merged_apply (l o : FVec Ideal S3x16384x512 .f32) : merged l o (ix2 n c)
    = merge (l (ix3 0 n c)) (l (ix3 1 n c)) (l (ix3 2 n c)) (o (ix3 0 n c)) (o (ix3 1 n c)) (o (ix3 2 n c)) := by
  pointwise [merged, weights_apply]
  rw [Fin.sum_univ_three, Fin.sum_univ_three]
  unfold merge
  rw [mul_comm (o (ix3 0 n c)), mul_comm (o (ix3 1 n c)), mul_comm (o (ix3 2 n c))]

theorem normA_apply (a : FVec Ideal S16384x512 .f32) (g : FVec Ideal S512 .f32) : normA a g (ix2 n c) = norm (Ideal.ofBits .f32 0x44000000#32) (fun c => a (ix2 n c)) (fun c => g (ix1 c)) c := by
  pointwise [normA]
  rfl

theorem normB_apply (a : FVec Ideal S16384x1024 .f32) (g : FVec Ideal S1024 .f32) : normB a g (ix2 n k) = normed2 (fun c => a (ix2 n c)) (fun c => g (ix1 c)) k := by
  pointwise [normB, normed2]
  rfl

theorem middle_apply (a : FVec Ideal S16384x512 .f32) (s : FVec Ideal S16384x512 .bf16) (x : FVec Ideal S16384x1024 .f32) (w : FVec Ideal S1024x1024 .f32) :
    middle a s x w (ix2 n k) = plus (fun k => x (ix2 n k)) (both (fun c => a (ix2 n c)) (fun c => s (ix2 n c))) (fun j k => w (ix2 j k)) k := by
  pointwise [middle, plus, both]

theorem last_apply (x a : FVec Ideal S16384x1024 .f32) (up : FVec Ideal S1024x4096 .f32) (dn : FVec Ideal S4096x1024 .f32) : last x (hidden a up) dn (ix2 n k)
    = mlp (fun k => x (ix2 n k)) (fun k => a (ix2 n k)) (fun j f => up (ix2 j f)) (fun f k => dn (ix2 f k)) k := by
  pointwise [last, hidden, mlp, unit]

theorem mid_apply : mid x0 x1 x2 x3 x4 x5 x6 x7 x8 x9 (ix2 n k)
    = plus (fun k => x0 (ix2 n k)) (both (attended (fun c => x8 (ix1 c)) (row x4 n) (row x5 n) (row x6 n) (row x1 n) (row x2 n) (row x3 n)) (fun c => x7 (ix2 n c))) (fun j k => x9 (ix2 j k)) k := by
  unfold mid
  rw [middle_apply]
  simp only [normA_apply, merged_apply, stack3_0, stack3_1, stack3_2, seqOf_apply]
  rfl

/-- The reference's result, row by row. -/
theorem resultOf_apply : resultOf x0 x1 x2 x3 x4 x5 x6 x7 x8 x9 x10 x11 x12 (ix2 n k)
    = mlp (fun k => mid x0 x1 x2 x3 x4 x5 x6 x7 x8 x9 (ix2 n k)) (normed2 (fun k => mid x0 x1 x2 x3 x4 x5 x6 x7 x8 x9 (ix2 n k)) (fun k => x10 (ix1 k)))
      (fun j f => x11 (ix2 j f)) (fun f k => x12 (ix2 f k)) k := by
  unfold resultOf
  rw [last_apply]
  simp only [normB_apply]

end Cert.MlpRefIdeal.Rows

end
-- ==== Proof.MlpRun.lean ====
/- The kernel's last part of the layer, from its blocks of 512 rows to the whole array. -/
module

public import proofs.«01_k».proof.Proof.MlpRef
public import proofs.«01_k».proof.Proof.Gen.MlpIdeal.Value
public import Idealize.ShloMosaic.Lib.Pointwise

@[expose] public section

set_option maxRecDepth 16384

noncomputable section

namespace Cert.MlpIdeal.Rows

open Cert.MlpIdeal Cert.MlpIdeal.Gen Idealize.ShloMosaic Idealize.ShloMosaic.TcCoe Idealize.ShloMosaic.Tactic
open Idealize.SL Idealize.SL.Sem
open Idealize.ShloMosaic.Pipeline (Dat)
open Cert.MlpRow (row)

variable (m : (ℓ : Loc nD τ sig) → Buf (Elt Ideal) ℓ) (ρ : Dev nD → PrngReg) (c : Dev nD) (t : Fin cfg0.N)

theorem t_lt : t.val < 32 := t.isLt

/-- The row of the array at row `n` of point `t`'s block. -/
abbrev at_ (n : Fin 512) : Fin 16384 := ⟨512 * t.val + n.val, by have := t_lt t; omega⟩

/-! ## The place in its array of an element of each window's block -/

theorem index_rows : ∀ t : Fin cfg0.N, win0_0.index t = ![t.val, 0] := (by decide +kernel : ∀ t : Fin grid0.N, win0_0.index t = ![t.val, 0])
theorem index_pair : ∀ t : Fin cfg0.N, win0_1.index t = ![0, t.val, 0] := (by decide +kernel : ∀ t : Fin grid0.N, win0_1.index t = ![0, t.val, 0])
theorem index_whole : ∀ t : Fin cfg0.N, win0_8.index t = ![0, 0] := (by decide +kernel : ∀ t : Fin grid0.N, win0_8.index t = ![0, 0])

theorem emb0 (n : Fin 512) (k : Fin 1024) : ((cfg0.win 0).blk t).view.emb (ix2 n k) = ix2 (at_ t n) k := by
  funext a
  apply Fin.ext
  refine (Pipeline.Window.rect_emb_val win0_0 t (ix2 n k) a).trans ?_
  rw [index_rows t]
  fin_cases a
  · show t.val * 512 + n.val = 512 * t.val + n.val; omega
  · show 0 * 1024 + k.val = k.val; omega

theorem emb1 (p : Fin 2) (n : Fin 512) (l : Fin 256) : ((cfg0.win 1).blk t).view.emb (ix3 p n l) = ix3 p (at_ t n) l := by
  funext a
  apply Fin.ext
  refine (Pipeline.Window.rect_emb_val win0_1 t (ix3 p n l) a).trans ?_
  rw [index_pair t]
  fin_cases a
  · show 0 * 2 + p.val = p.val; omega
  · show t.val * 512 + n.val = 512 * t.val + n.val; omega
  · show 0 * 256 + l.val = l.val; omega

theorem emb7 (n : Fin 512) (k : Fin 512) : ((cfg0.win 7).blk t).view.emb (ix2 n k) = ix2 (at_ t n) k := by
  funext a
  apply Fin.ext
  refine (Pipeline.Window.rect_emb_val win0_7 t (ix2 n k) a).trans ?_
  rw [show win0_7.index t = ![t.val, 0] from index_rows t]
  fin_cases a
  · show t.val * 512 + n.val = 512 * t.val + n.val; omega
  · show 0 * 512 + k.val = k.val; omega

/-- A window that is the whole of its array at every point puts an element in its own place. -/
theorem whole_val (b i s : ℕ) (h : b = 0) : b * s + i = i := by rw [h]; omega

theorem emb8 (i : S1x512.Idx) : ((cfg0.win 8).blk t).view.emb i = i := by
  funext a
  apply Fin.ext
  refine (Pipeline.Window.rect_emb_val win0_8 t i a).trans (whole_val _ _ _ ?_)
  rw [index_whole t]; fin_cases a <;> rfl

theorem emb9 (i : S1024x1024.Idx) : ((cfg0.win 9).blk t).view.emb i = i := by
  funext a
  apply Fin.ext
  refine (Pipeline.Window.rect_emb_val win0_9 t i a).trans (whole_val _ _ _ ?_)
  rw [show win0_9.index t = ![0, 0] from index_whole t]; fin_cases a <;> rfl

theorem emb10 (i : S1x1024.Idx) : ((cfg0.win 10).blk t).view.emb i = i := by
  funext a
  apply Fin.ext
  refine (Pipeline.Window.rect_emb_val win0_10 t i a).trans (whole_val _ _ _ ?_)
  rw [show win0_10.index t = ![0, 0] from index_whole t]; fin_cases a <;> rfl

theorem emb11 (i : S1024x4096.Idx) : ((cfg0.win 11).blk t).view.emb i = i := by
  funext a
  apply Fin.ext
  refine (Pipeline.Window.rect_emb_val win0_11 t i a).trans (whole_val _ _ _ ?_)
  rw [show win0_11.index t = ![0, 0] from index_whole t]; fin_cases a <;> rfl

theorem emb12 (i : S4096x1024.Idx) : ((cfg0.win 12).blk t).view.emb i = i := by
  funext a
  apply Fin.ext
  refine (Pipeline.Window.rect_emb_val win0_12 t i a).trans (whole_val _ _ _ ?_)
  rw [show win0_12.index t = ![0, 0] from index_whole t]; fin_cases a <;> rfl

theorem emb13 (n : Fin 512) (k : Fin 1024) : ((cfg0.win 13).blk t).view.emb (ix2 n k) = ix2 (at_ t n) k := emb0 t n k

/-! ## What the thirteen input blocks hold, in the arguments -/

theorem blk0 (n : Fin 512) (k : Fin 1024) : iblk m c 0 t (ix2 n k) = m ((c.tc : Thread nD τ).loc main_arg0) (ix2 (at_ t n) k) := by
  show V m c main_arg0 (((cfg0.win 0).blk t).view.emb (ix2 n k)) = _
  rw [emb0, V_main_arg0]

theorem blk1 (p : Fin 2) (n : Fin 512) (l : Fin 256) : iblk m c 1 t (ix3 p n l) = m ((c.tc : Thread nD τ).loc main_arg1) (ix3 p (at_ t n) l) := by
  show V m c main_arg1 (((cfg0.win 1).blk t).view.emb (ix3 p n l)) = _
  rw [emb1, V_main_arg1]

theorem blk2 (p : Fin 2) (n : Fin 512) (l : Fin 256) : iblk m c 2 t (ix3 p n l) = m ((c.tc : Thread nD τ).loc main_arg2) (ix3 p (at_ t n) l) := by
  show V m c main_arg2 (((cfg0.win 1).blk t).view.emb (ix3 p n l)) = _
  rw [emb1, V_main_arg2]

theorem blk3 (p : Fin 2) (n : Fin 512) (l : Fin 256) : iblk m c 3 t (ix3 p n l) = m ((c.tc : Thread nD τ).loc main_arg3) (ix3 p (at_ t n) l) := by
  show V m c main_arg3 (((cfg0.win 1).blk t).view.emb (ix3 p n l)) = _
  rw [emb1, V_main_arg3]

theorem blk4 (p : Fin 2) (n : Fin 512) (l : Fin 256) : iblk m c 4 t (ix3 p n l) = m ((c.tc : Thread nD τ).loc main_arg4) (ix3 p (at_ t n) l) := by
  show V m c main_arg4 (((cfg0.win 1).blk t).view.emb (ix3 p n l)) = _
  rw [emb1, V_main_arg4]

theorem blk5 (p : Fin 2) (n : Fin 512) (l : Fin 256) : iblk m c 5 t (ix3 p n l) = m ((c.tc : Thread nD τ).loc main_arg5) (ix3 p (at_ t n) l) := by
  show V m c main_arg5 (((cfg0.win 1).blk t).view.emb (ix3 p n l)) = _
  rw [emb1, V_main_arg5]

theorem blk6 (p : Fin 2) (n : Fin 512) (l : Fin 256) : iblk m c 6 t (ix3 p n l) = m ((c.tc : Thread nD τ).loc main_arg6) (ix3 p (at_ t n) l) := by
  show V m c main_arg6 (((cfg0.win 1).blk t).view.emb (ix3 p n l)) = _
  rw [emb1, V_main_arg6]

theorem blk7 (n : Fin 512) (k : Fin 512) : iblk m c 7 t (ix2 n k) = m ((c.tc : Thread nD τ).loc main_arg7) (ix2 (at_ t n) k) := by
  show V m c main_arg7 (((cfg0.win 7).blk t).view.emb (ix2 n k)) = _
  rw [emb7, V_main_arg7]

theorem V0 : V m c main_v0 = (shapeCast S1x512 (m ((c.tc : Thread nD τ).loc main_arg8)) shapeCasts_S512_S1x512 : FVec Ideal S1x512 .f32) := rfl
theorem V1 : V m c main_v1 = (m ((c.tc : Thread nD τ).loc main_arg9) : FVec Ideal S1024x1024 .f32) := rfl
theorem V2 : V m c main_v2 = (shapeCast S1x1024 (m ((c.tc : Thread nD τ).loc main_arg10)) shapeCasts_S1024_S1x1024 : FVec Ideal S1x1024 .f32) := rfl
theorem V3 : V m c main_v3 = (m ((c.tc : Thread nD τ).loc main_arg11) : FVec Ideal S1024x4096 .f32) := rfl
theorem V4 : V m c main_v4 = (m ((c.tc : Thread nD τ).loc main_arg12) : FVec Ideal S4096x1024 .f32) := rfl

theorem cast8 (x : FVec Ideal S512 .f32) (k : Fin 512) : (shapeCast S1x512 x shapeCasts_S512_S1x512 : FVec Ideal S1x512 .f32) (ix2 0 k) = x (ix1 k) := by pointwise
theorem cast10 (x : FVec Ideal S1024 .f32) (k : Fin 1024) : (shapeCast S1x1024 x shapeCasts_S1024_S1x1024 : FVec Ideal S1x1024 .f32) (ix2 0 k) = x (ix1 k) := by pointwise

theorem blk8 (k : Fin 512) : iblk m c 8 t (ix2 0 k) = m ((c.tc : Thread nD τ).loc main_arg8) (ix1 k) := by
  show V m c main_v0 (((cfg0.win 8).blk t).view.emb (ix2 0 k)) = _
  rw [emb8, V0]
  exact cast8 _ k

theorem blk9 (j k : Fin 1024) : iblk m c 9 t (ix2 j k) = m ((c.tc : Thread nD τ).loc main_arg9) (ix2 j k) := by
  show V m c main_v1 (((cfg0.win 9).blk t).view.emb (ix2 j k)) = _
  rw [emb9, V1]

theorem blk10 (k : Fin 1024) : iblk m c 10 t (ix2 0 k) = m ((c.tc : Thread nD τ).loc main_arg10) (ix1 k) := by
  show V m c main_v2 (((cfg0.win 10).blk t).view.emb (ix2 0 k)) = _
  rw [emb10, V2]
  exact cast10 _ k

theorem blk11 (j : Fin 1024) (f : Fin 4096) : iblk m c 11 t (ix2 j f) = m ((c.tc : Thread nD τ).loc main_arg11) (ix2 j f) := by
  show V m c main_v3 (((cfg0.win 11).blk t).view.emb (ix2 j f)) = _
  rw [emb11, V3]

theorem blk12 (f : Fin 4096) (k : Fin 1024) : iblk m c 12 t (ix2 f k) = m ((c.tc : Thread nD τ).loc main_arg12) (ix2 f k) := by
  show V m c main_v4 (((cfg0.win 12).blk t).view.emb (ix2 f k)) = _
  rw [emb12, V4]

/-! ## The result -/

/-- The reference's result on the launch's arguments. -/
def whole : FVec Ideal S16384x1024 .f32 :=
  MlpRefIdeal.Rows.resultOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12))

/-- The rows before the MLP are the reference's. -/
theorem mid_eq (n : Fin 512) (k : Fin 1024) : MlpRow.mid (iblk m c 0 t) (iblk m c 1 t) (iblk m c 2 t) (iblk m c 3 t) (iblk m c 4 t) (iblk m c 5 t) (iblk m c 6 t) (iblk m c 7 t) (iblk m c 8 t) (iblk m c 9 t) (ix2 n k)
    = MlpRefIdeal.Rows.mid (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    (m ((c.tc : Thread nD τ).loc main_arg9)) (ix2 (at_ t n) k) := by
  rw [MlpRow.mid_apply, MlpRefIdeal.Rows.mid_apply]
  rw [show row (iblk m c 1 t) n = row (m ((c.tc : Thread nD τ).loc main_arg1)) (at_ t n) from funext fun l => blk1 m c t _ n _,
    show row (iblk m c 2 t) n = row (m ((c.tc : Thread nD τ).loc main_arg2)) (at_ t n) from funext fun l => blk2 m c t _ n _,
    show row (iblk m c 3 t) n = row (m ((c.tc : Thread nD τ).loc main_arg3)) (at_ t n) from funext fun l => blk3 m c t _ n _,
    show row (iblk m c 4 t) n = row (m ((c.tc : Thread nD τ).loc main_arg4)) (at_ t n) from funext fun l => blk4 m c t _ n _,
    show row (iblk m c 5 t) n = row (m ((c.tc : Thread nD τ).loc main_arg5)) (at_ t n) from funext fun l => blk5 m c t _ n _,
    show row (iblk m c 6 t) n = row (m ((c.tc : Thread nD τ).loc main_arg6)) (at_ t n) from funext fun l => blk6 m c t _ n _]
  simp only [blk0, blk7, blk8, blk9]

/-- An entry of a point's block is the reference's. -/
theorem entry (n : Fin 512) (k : Fin 1024) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 n k)
    = whole m c (ix2 (at_ t n) k) := by
  unfold whole
  rw [MlpRow.out_apply, MlpRefIdeal.Rows.resultOf_apply]
  simp only [mid_eq, blk10, blk11, blk12]

theorem cut (X : FVec Ideal S512x1024 .f32) (i : S512x1024.Idx) : (cfg0.win 13).cut (grid0.coords t) X i = X i := rfl

theorem read (G : FVec Ideal S16384x1024 .f32) (i : S512x1024.Idx) :
    ((cfg0.win 13).blk t).view.read (Elt Ideal) G i = G (((cfg0.win 13).blk t).view.emb i) := rfl

/-- What point `t` writes back is its block of the reference's result. -/
theorem flushed_eq : (dats m 0 c).flushed 13 t = ((cfg0.win 13).blk t).view.read (Elt Ideal) (whole m c) := by
  rw [Value.flushed13]
  funext i
  obtain ⟨n, k, hi⟩ : ∃ (n : Fin 512) (k : Fin 1024), i = ix2 n k := ⟨i 0, i 1, eq_ix2 i⟩
  refine (cut t _ i).trans (Eq.trans ?_ (read t _ i).symm)
  rw [hi, emb13]
  exact entry m c t n k

theorem mem_blk (i : S16384x1024.Idx) : i ∈ ((cfg0.win 13).blk t).view.set ↔ (i 0).val / 512 = t.val := by
  show i ∈ ((View.whole main_v5).slice (win0_13.rect t)).set ↔ _
  rw [View.set_slice_whole, Rect.mem_set_unit]
  have hx : win0_13.index t = ![t.val, 0] := index_rows t
  have e0 : win0_13.index t 0 * win0_13.size 0 = 512 * t.val := by rw [hx]; show t.val * 512 = _; omega
  have e1 : win0_13.index t 1 * win0_13.size 1 = 0 := by rw [hx]; show 0 * 1024 = _; omega
  have hi : (i 1).val < 1024 := (i 1).isLt
  refine ⟨fun h => ?_, fun h a => ?_⟩
  · have h0 : win0_13.index t 0 * win0_13.size 0 ≤ (i 0).val ∧ (i 0).val < win0_13.index t 0 * win0_13.size 0 + 512 := h 0
    rw [e0] at h0
    omega
  · match a with
    | ⟨0, _⟩ => show win0_13.index t 0 * win0_13.size 0 ≤ (i 0).val ∧ (i 0).val < win0_13.index t 0 * win0_13.size 0 + 512
                rw [e0]; omega
    | ⟨1, _⟩ => show win0_13.index t 1 * win0_13.size 1 ≤ (i 1).val ∧ (i 1).val < win0_13.index t 1 * win0_13.size 1 + 1024
                rw [e1]; omega

/-- The result after the run is the reference's. -/
theorem final : (dats m 0 c).arrAt 13 cfg0.N = whole m c :=
  (dats m 0 c).arrAt_eq_of_cover 13 (whole m c) (fun t _ => flushed_eq m c t) fun i =>
    have h : (i 0).val / 512 < 32 := by have h : (i 0).val < 16384 := (i 0).isLt; omega
    ⟨⟨(i 0).val / 512, h⟩, flush0_13 _, (mem_blk _ i).2 rfl⟩

end Cert.MlpIdeal.Rows

end
-- ==== Proof.MlpClaim.lean ====
/- The claims about the last part of the layer, from the two runs. -/
module

public import proofs.«01_k».proof.Defs
public import proofs.«01_k».proof.Proof.MlpRun
public import proofs.«01_k».proof.Proof.Gen.Mlp
public import proofs.«01_k».proof.Proof.Gen.Mlp.Frame

@[expose] public section

noncomputable section

namespace Cert.LastPart

open Idealize.ShloMosaic Idealize.SL.Sem

/-- The kernel runs, leaves its arguments and ends with its counters at zero. -/
theorem frame : Cert.quiescent_Mlp := fun m ρ _ => Cert.Mlp.Gen.frame m ρ

/-- So does its ideal form. -/
theorem frameIdeal : Cert.quiescent_MlpIdeal := fun m ρ _ => Cert.MlpIdeal.Gen.frame m ρ

/-- So does the reference, which has no counter. -/
theorem frameRef : Cert.quiescent_MlpRefIdeal := fun m ρ _ =>
  (θ_run Cert.MlpRefIdeal.defs _ _).mono
    (fun r h => ⟨fun c => (h c).2, sem_eq_zero_of_no_sems (by decide) r.2⟩)
    (Cert.MlpRefIdeal.Value.run (F := Ideal) m ρ)

/-- The ideal form is the kernel itself. -/
theorem preserves : Cert.preserves_Mlp_MlpIdeal := trivial

/-- The kernel's result is the reference's, on every argument. -/
theorem algebraic : Cert.algebraic_MlpIdeal_MlpRefIdeal := by
  intro m ρ m' ρ' _ same
  refine ⟨fun c => Cert.MlpIdeal.Rows.whole m c,
    (θ_run Cert.MlpIdeal.defs _ _).mono (fun _ h c => ⟨(h c).1.trans (Cert.MlpIdeal.Rows.final m c), (h c).2⟩) (Cert.MlpIdeal.Value.run_blocks m ρ), ?_⟩
  refine (θ_run Cert.MlpRefIdeal.defs _ _).mono (fun _ h c => ⟨(h c).1.trans ?_, (h c).2⟩)
    (Cert.MlpRefIdeal.Value.run (F := Ideal) m' ρ')
  refine (Cert.MlpRefIdeal.Rows.result_eq m' c).trans ?_
  unfold Cert.MlpIdeal.Rows.whole
  obtain ⟨h0, h1, h2, h3, h4, h5, h6, h7, h8, h9, h10, h11, h12⟩ := same c
  rw [h0, h1, h2, h3, h4, h5, h6, h7, h8, h9, h10, h11, h12]

end Cert.LastPart

end
-- ==== Proof.ProjTile.lean ====
/- What the projection's kernel stores for a block of 512 rows, row by row. -/
module

public import proofs.«01_k».proof.Proof.MlpTile
public import proofs.«01_k».proof.Proof.Gen.ProjIdeal.Value
public import Idealize.ShloMosaic.Lib.Pointwise
public import Idealize.ShloMosaic.Lib.Pipeline.Value

@[expose] public section

set_option maxRecDepth 16384

noncomputable section

namespace Cert.ProjRow

open Cert.ProjIdeal Cert.ProjIdeal.Gen Cert.ProjIdeal.Value Idealize.ShloMosaic Idealize.ShloMosaic.TcCoe Idealize.ShloMosaic.Tactic
open Cert.MlpRow (norm)

/-! ## One row of the projections -/

/-- A row normed, times a column of the joint weights. -/
def lin (x g : Fin 1024 → EReal) (w : Fin 1024 → Fin 2048 → EReal) (j : Fin 2048) : EReal :=
  ∑ i, norm (Ideal.ofBits .f32 0x44800000#32) x g i * w i j

/-- Channel `c` of the 512 columns that begin at `off`, over the root mean square of its head of 64 channels. -/
def headOf (off : ℕ) (h : off + 512 ≤ 2048) (t : Fin 2048 → EReal) (g : Fin 64 → EReal) (c : Fin 512) : EReal :=
  norm (Ideal.ofBits .f32 0x42800000#32) (fun e : Fin 64 => t ⟨off + (c.val / 64 * 64 + e.val), by omega⟩) g ⟨c.val % 64, by omega⟩

/-- The channel at place `l` of half `p`. -/
abbrev chan (p : Fin 2) (l : Fin 256) : Fin 512 := ⟨p.val * 256 + l.val, by omega⟩

/-! ## A mean over a head, as a product with a matrix of zeros and sixty-fourths -/

theorem ofBits_64th : Ideal.ofBits .f32 0x3C800000#32 = (((1 : ℝ) / 64 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_0 : Ideal.ofBits .f32 0x00000000#32 = 0 := by simp [Ideal.ofBits, Ideal.ieee]

theorem square_nonneg (x : EReal) : 0 ≤ x * x := by
  rcases le_total 0 x with h | h
  · exact EReal.mul_nonneg h h
  · rw [← neg_mul_neg]; exact EReal.mul_nonneg (EReal.neg_nonneg.2 h) (EReal.neg_nonneg.2 h)

/-- A factor goes out of a sum of terms that are not negative. -/
theorem sum_times {ι : Type} [DecidableEq ι] (s : Finset ι) (f : ι → EReal) (hf : ∀ i, 0 ≤ f i) (r : EReal) : ∑ i ∈ s, f i * r = (∑ i ∈ s, f i) * r := by
  induction s using Finset.induction_on with
  | empty => simp
  | insert a s ha ih => rw [Finset.sum_insert ha, Finset.sum_insert ha, ih, EReal.right_distrib_of_nonneg (hf a) (Finset.sum_nonneg fun i _ => hf i)]

/-- Whether two channels lie in one head: a sixty-fourth or zero. -/
def shared (j c : Fin 512) : EReal := if j.val / 64 = c.val / 64 then Ideal.ofBits .f32 0x3C800000#32 else Ideal.ofBits .f32 0x00000000#32

/-- The squares of 512 channels times the column of channel `c` are the mean of the squares of the head of `c`. -/
theorem mean_eq (t : Fin 512 → EReal) (c : Fin 512) : ∑ j, t j * t j * shared j c
    = Ideal.div (∑ e : Fin 64, t ⟨c.val / 64 * 64 + e.val, by omega⟩ * t ⟨c.val / 64 * 64 + e.val, by omega⟩) (Ideal.ofBits .f32 0x42800000#32) := by
  have hc := c.isLt
  rw [Fin.sum_univ_tiles 8 64 rfl, Finset.sum_eq_single (⟨c.val / 64, by omega⟩ : Fin 8)]
  · rw [ofBits_64, Ideal.div_coe (by norm_num), ← ofBits_64th, ← sum_times _ _ (fun e => square_nonneg _)]
    refine Finset.sum_congr rfl fun e _ => ?_
    have he := e.isLt
    unfold shared
    rw [if_pos (by show (c.val / 64 * 64 + e.val) / 64 = c.val / 64; omega)]
  · intro b _ hb
    refine Finset.sum_eq_zero fun e _ => ?_
    have he := e.isLt
    have : b.val ≠ c.val / 64 := fun h => hb (Fin.ext h)
    unfold shared
    rw [if_neg (by show (b.val * 64 + e.val) / 64 ≠ c.val / 64; omega), ofBits_0, mul_zero]
  · intro h; exact absurd (Finset.mem_univ _) h

/-! ## The kernel's stages read at an index -/

variable (x0 : Vec Ideal S512x1024 .f32) (x1 : Vec Ideal S1x1024 .f32) (x2 : Vec Ideal S1024x2048 .bf16) (x3 : Vec Ideal S512x512 .bf16) (x4 x5 : Vec Ideal S1x512 .f32)
variable (n : Fin 512) (j : Fin 2048) (c : Fin 512)

/-- A row of a block times the weights. -/
abbrev linOf (n : Fin 512) : Fin 2048 → EReal := lin (fun k => x0 (ix2 n k)) (fun k => x1 (ix2 0 k)) (fun i j => x2 (ix2 i j))

theorem lin_apply : k0_pay3 x0 x1 x2 (ix2 n j) = linOf x0 x1 x2 n j := by
  pointwise [k0_pay3]
  rfl

/-- Channels over the root of their products with the matrix, times a gain. -/
def heads (t : FVec Ideal S512x512 .f32) : FVec Ideal S512x512 .f32 :=
  k0_pay8 t (shapeCast S1x512 x4 shapeCasts_S1x512_S1x512) (truncf .bf16 (mulf t t) bitsLt_bf16_f32) x3

theorem heads_apply (t : FVec Ideal S512x512 .f32) : heads x3 x4 t (ix2 n c)
    = t (ix2 n c) * Ideal.rsqrt (∑ j, t (ix2 n j) * t (ix2 n j) * x3 (ix2 j c) + Ideal.ofBits .f32 0x358637BD#32) * x4 (ix2 0 c) := by
  pointwise [heads, k0_pay8]

/-- Of 512 columns of the weights' product, with the matrix of heads and a gain repeated in every head. -/
theorem heads_head (off : ℕ) (h : off + 512 ≤ 2048) (t : FVec Ideal S512x512 .f32) (u : Fin 2048 → EReal) (ht : ∀ c : Fin 512, t (ix2 n c) = u ⟨off + c.val, by omega⟩)
    (g : Fin 64 → EReal) (hg : ∀ c : Fin 512, x4 (ix2 0 c) = g ⟨c.val % 64, by omega⟩) (hm : ∀ j c : Fin 512, x3 (ix2 j c) = shared j c) :
    heads x3 x4 t (ix2 n c) = headOf off h u g c := by
  rw [heads_apply]
  simp only [hm, hg]
  rw [mean_eq (fun c => t (ix2 n c)) c]
  simp only [ht]
  unfold headOf MlpRow.norm
  have e : (⟨off + c.val, by omega⟩ : Fin 2048) = ⟨off + (c.val / 64 * 64 + c.val % 64), by omega⟩ := Fin.ext (by show off + c.val = off + (c.val / 64 * 64 + c.val % 64); omega)
  rw [e]

theorem slice0 (v : FVec Ideal S512x2048 .f32) : (extractStridedSlice S512x512 ![0, 0] v slices_S512x2048_o0_0_S512x512 : FVec Ideal S512x512 .f32) (ix2 n c) = v (ix2 n ⟨0 + c.val, by omega⟩) := by
  pointwise
theorem slice512 (v : FVec Ideal S512x2048 .f32) : (extractStridedSlice S512x512 ![0, 512] v slices_S512x2048_o0_512_S512x512 : FVec Ideal S512x512 .f32) (ix2 n c) = v (ix2 n ⟨512 + c.val, by omega⟩) := by
  pointwise

theorem query_eq : k0_pay4 x0 x1 x2 x4 x3
    = mulf (heads x3 x4 (extractStridedSlice S512x512 ![0, 0] (k0_pay3 x0 x1 x2) slices_S512x2048_o0_0_S512x512)) (broadcast S512x512 (Scalar.ofBits .f32 0x3E000000#32)) := rfl

theorem mulf_ix {s : Shape} {φ : FTy} (x y : FVec Ideal s φ) (i : s.Idx) : mulf x y i = x i * y i := rfl

/-! ## The four stored blocks -/

theorem hz2 : (![0, 0] : Fin 2 → Nat) = fun _ => 0 := funext fun a => by fin_cases a <;> rfl

theorem whole0 : View.ld x0 r0_0 = x0 := View.ld_unit_zero (S := S512x1024) hz2 _ x0
theorem whole1 : View.ld x1 r0_1 = x1 := View.ld_unit_zero (S := S1x1024) hz2 _ x1
theorem whole2 : View.ld x2 r0_2 = x2 := View.ld_unit_zero (S := S1024x2048) hz2 _ x2
theorem whole3 : View.ld x3 r0_4 = x3 := View.ld_unit_zero (S := S512x512) hz2 _ x3
theorem whole4 : View.ld x4 r0_3 = x4 := View.ld_unit_zero (S := S1x512) hz2 _ x4

variable (p : Fin 2) (l : Fin 256)

theorem place : ix6_0 (ix3 p n l) = ix2 n (chan p l) := by
  funext a; fin_cases a <;> rfl

theorem place8 : ix8_0 (ix3 p n l) = ix2 n ⟨1024 + (chan p l).val, by omega⟩ := by
  funext a; fin_cases a
  · rfl
  · exact Fin.ext (by show p.val * 256 + l.val + 1024 = 1024 + (p.val * 256 + l.val); omega)

theorem place9 : ix9_0 (ix2 n c) = ix2 n ⟨1536 + c.val, by omega⟩ := by
  funext a; fin_cases a
  · rfl
  · exact Fin.ext (by show c.val + 1536 = 1536 + c.val; omega)

/-- The queries. -/
theorem query_apply (g : Fin 64 → EReal) (hg : ∀ c : Fin 512, x4 (ix2 0 c) = g ⟨c.val % 64, by omega⟩) (hm : ∀ j c : Fin 512, x3 (ix2 j c) = shared j c) :
    out0_6 x0 x1 x2 x3 x4 x5 (ix3 p n l) = headOf 0 (by omega) (linOf x0 x1 x2 n) g (chan p l) * Ideal.ofBits .f32 0x3E000000#32 := by
  unfold out0_6 k0_pay17
  rw [whole0, whole1, whole2, whole3, whole4, canon6_eq]
  show k0_pay4 x0 x1 x2 x4 x3 (ix6_0 (ix3 p n l)) = _
  rw [place, query_eq, mulf_ix, heads_head x3 x4 n (chan p l) 0 (by omega) _ (linOf x0 x1 x2 n) (fun c => by rw [slice0, lin_apply]) g hg hm]
  rfl

/-- The keys. -/
theorem key_apply (g : Fin 64 → EReal) (hg : ∀ c : Fin 512, x5 (ix2 0 c) = g ⟨c.val % 64, by omega⟩) (hm : ∀ j c : Fin 512, x3 (ix2 j c) = shared j c) :
    out0_7 x0 x1 x2 x3 x4 x5 (ix3 p n l) = headOf 512 (by omega) (linOf x0 x1 x2 n) g (chan p l) := by
  unfold out0_7 k0_pay18 k0_pay19 k0_pay20
  rw [whole0, whole1, whole2, whole3, whole4, canon7_eq]
  show heads x3 x5 (extractStridedSlice S512x512 ![0, 512] (k0_pay3 x0 x1 x2) slices_S512x2048_o0_512_S512x512) (ix6_0 (ix3 p n l)) = _
  rw [place, heads_head x3 x5 n (chan p l) 512 (by omega) _ (linOf x0 x1 x2 n) (fun c => by rw [slice512, lin_apply]) g hg hm]

/-- The values. -/
theorem value_apply : out0_8 x0 x1 x2 x3 x4 x5 (ix3 p n l) = linOf x0 x1 x2 n ⟨1024 + (chan p l).val, by omega⟩ := by
  unfold out0_8 k0_pay16
  rw [whole0, whole1, whole2, canon8_eq]
  show k0_pay3 x0 x1 x2 (ix8_0 (ix3 p n l)) = _
  rw [place8, lin_apply]

/-- The scan's input. -/
theorem scan_apply : out0_9 x0 x1 x2 x3 x4 x5 (ix2 n c) = linOf x0 x1 x2 n ⟨1536 + c.val, by omega⟩ := by
  unfold out0_9 k0_pay16
  rw [whole0, whole1, whole2, canon9_eq]
  show k0_pay3 x0 x1 x2 (ix9_0 (ix2 n c)) = _
  rw [place9, lin_apply]

end Cert.ProjRow

end
-- ==== Proof.ProjRef.lean ====
/- The reference's projections, row by row. -/
module

public import proofs.«01_k».proof.Proof.ProjTile
public import proofs.«01_k».proof.Proof.Gen.ProjRefIdeal.Run
public import Idealize.ShloMosaic.Lib.Pointwise

@[expose] public section

set_option maxRecDepth 16384

noncomputable section

namespace Cert.ProjRefIdeal.Rows

open Cert.ProjRefIdeal Cert.ProjRefIdeal.Gen Cert.ProjRefIdeal.Value Idealize.ShloMosaic Idealize.ShloMosaic.TcCoe Idealize.ShloMosaic.StableHlo Idealize.SL.Sem
open Cert.MlpRow (norm)
open Cert.ProjRow (lin headOf chan)

/-! ## The stages of the reference, named -/

/-- The rows, each over its root mean square. -/
def normed (a : FVec Ideal S16384x1024 .f32) (g : FVec Ideal S1024 .f32) : FVec Ideal S16384x1024 .f32 :=
  mulf (mulf a (broadcastInDim S16384x1024 ![0, 1] bcast_S16384x1_S16384x1024_0_1 (Host.rsqrt (addf (Host.divf (broadcastInDim S16384x1 ![0] bcast_S16384_S16384x1_0
    (Host.reduceAdd (mulf a a) (constant S_ .f32 0x00000000#32) reducesTo_S16384x1024_S16384_d1 h_S_)) (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The normed rows times the joint weights. -/
def joint (a : FVec Ideal S16384x1024 .f32) (g : FVec Ideal S1024 .f32) (w : FVec Ideal S1024x2048 .f32) : FVec Ideal S16384x2048 .f32 :=
  Host.dotGeneral dot_S16384x1024_S1024x2048_S16384x2048_1_0_0_1_n_n none (normed a g) w

/-- 512 columns as eight heads of 64 channels. -/
def split (x : FVec Ideal S16384x512 .f32) : FVec Ideal S16384x8x64 .f32 := shapeCast S16384x8x64 x shapeCasts_S16384x512_S16384x8x64

/-- Every head over its root mean square, times a gain. -/
def normHeads (t : FVec Ideal S16384x8x64 .f32) (g : FVec Ideal S64 .f32) : FVec Ideal S16384x8x64 .f32 :=
  mulf (mulf t (broadcastInDim S16384x8x64 ![0, 1, 2] bcast_S16384x8x1_S16384x8x64_0_1_2 (Host.rsqrt (addf (Host.divf (broadcastInDim S16384x8x1 ![0, 1] bcast_S16384x8_S16384x8x1_0_1
    (Host.reduceAdd (mulf t t) (constant S_ .f32 0x00000000#32) reducesTo_S16384x8x64_S16384x8_d2 h_S_)) (broadcastInDim S16384x8x1 ![] bcast_S_S16384x8x1 (constant S_ .f32 0x42800000#32)))
      (broadcastInDim S16384x8x1 ![] bcast_S_S16384x8x1 (constant S_ .f32 0x358637BD#32))))))
    (broadcastInDim S16384x8x64 ![0, 1, 2] bcast_S1x1x64_S16384x8x64_0_1_2 (broadcastInDim S1x1x64 ![2] bcast_S64_S1x1x64_2 g))

/-- The heads laid out in two halves of 256 channels. -/
def halves (t : FVec Ideal S16384x8x64 .f32) : FVec Ideal S2x16384x256 .bf16 :=
  truncf .bf16 (transpose S2x16384x256 [1, 0, 2] (shapeCast S16384x2x256 t shapeCasts_S16384x8x64_S16384x2x256) transposes_S16384x2x256_S2x16384x256_1_0_2) bitsLt_bf16_f32

variable (a : FVec Ideal S16384x1024 .f32) (g : FVec Ideal S1024 .f32) (w : FVec Ideal S1024x2048 .f32) (gh : FVec Ideal S64 .f32)

/-- The queries. -/
def queryOf : FVec Ideal S2x16384x256 .bf16 :=
  halves (mulf (normHeads (split (extractStridedSlice S16384x512 ![0, 0] (joint a g w) slices_S16384x2048_S16384x512_0_0)) gh)
    (broadcastInDim S16384x8x64 ![] bcast_S_S16384x8x64 (constant S_ .f32 0x3E000000#32)))

/-- The keys. -/
def keyOf : FVec Ideal S2x16384x256 .bf16 :=
  halves (normHeads (split (extractStridedSlice S16384x512 ![0, 512] (joint a g w) slices_S16384x2048_S16384x512_0_512)) gh)

/-- The values. -/
def valueOf : FVec Ideal S2x16384x256 .bf16 :=
  halves (split (extractStridedSlice S16384x512 ![0, 1024] (joint a g w) slices_S16384x2048_S16384x512_0_1024))

/-- The scan's input. -/
def scanOf : FVec Ideal S16384x512 .bf16 :=
  truncf .bf16 (extractStridedSlice S16384x512 ![0, 1536] (joint a g w) slices_S16384x2048_S16384x512_0_1536) bitsLt_bf16_f32

/-! ## The stages read at an index -/

variable (n : Fin 16384) (k : Fin 1024) (j : Fin 2048) (c : Fin 512) (h : Fin 8) (e : Fin 64) (p : Fin 2) (l : Fin 256)

theorem normed_apply : normed a g (ix2 n k) = norm (Ideal.ofBits .f32 0x44800000#32) (fun k => a (ix2 n k)) (fun k => g (ix1 k)) k := by
  pointwise [normed]
  rfl

/-- A row of the array times the weights. -/
abbrev linOf (n : Fin 16384) : Fin 2048 → EReal := lin (fun k => a (ix2 n k)) (fun k => g (ix1 k)) (fun i j => w (ix2 i j))

theorem joint_apply : joint a g w (ix2 n j) = linOf a g w n j := by
  pointwise [joint, normed_apply]
  rfl

theorem slice0 (v : FVec Ideal S16384x2048 .f32) : (extractStridedSlice S16384x512 ![0, 0] v slices_S16384x2048_S16384x512_0_0 : FVec Ideal S16384x512 .f32) (ix2 n c) = v (ix2 n ⟨0 + c.val, by omega⟩) := by
  pointwise
theorem slice512 (v : FVec Ideal S16384x2048 .f32) : (extractStridedSlice S16384x512 ![0, 512] v slices_S16384x2048_S16384x512_0_512 : FVec Ideal S16384x512 .f32) (ix2 n c) = v (ix2 n ⟨512 + c.val, by omega⟩) := by
  pointwise
theorem slice1024 (v : FVec Ideal S16384x2048 .f32) : (extractStridedSlice S16384x512 ![0, 1024] v slices_S16384x2048_S16384x512_0_1024 : FVec Ideal S16384x512 .f32) (ix2 n c) = v (ix2 n ⟨1024 + c.val, by omega⟩) := by
  pointwise
theorem slice1536 (v : FVec Ideal S16384x2048 .f32) : (extractStridedSlice S16384x512 ![0, 1536] v slices_S16384x2048_S16384x512_0_1536 : FVec Ideal S16384x512 .f32) (ix2 n c) = v (ix2 n ⟨1536 + c.val, by omega⟩) := by
  pointwise

theorem split_apply (x : FVec Ideal S16384x512 .f32) : split x (ix3 n h e) = x (ix2 n ⟨h.val * 64 + e.val, by omega⟩) := by
  pointwise [split]

theorem normHeads_apply (t : FVec Ideal S16384x8x64 .f32) : normHeads t gh (ix3 n h e) = norm (Ideal.ofBits .f32 0x42800000#32) (fun e => t (ix3 n h e)) (fun e => gh (ix1 e)) e := by
  pointwise [normHeads]
  rfl

theorem halves_apply (t : FVec Ideal S16384x8x64 .f32) : halves t (ix3 p n l) = t (ix3 n ⟨(chan p l).val / 64, by omega⟩ ⟨(chan p l).val % 64, by omega⟩) := by
  pointwise [halves]
  congr 1
  apply congrArg₂ (fun u v => ix3 n u v) <;> ext <;> simp <;> omega

theorem mulf_ix {s : Shape} {φ : FTy} (x y : FVec Ideal s φ) (i : s.Idx) : mulf x y i = x i * y i := rfl

/-- The queries, row by row. -/
theorem queryOf_apply : queryOf a g w gh (ix3 p n l) = headOf 0 (by omega) (linOf a g w n) (fun e => gh (ix1 e)) (chan p l) * Ideal.ofBits .f32 0x3E000000#32 := by
  unfold queryOf
  rw [halves_apply, mulf_ix, normHeads_apply]
  simp only [split_apply, slice0, joint_apply]
  rfl

/-- The keys, row by row. -/
theorem keyOf_apply : keyOf a g w gh (ix3 p n l) = headOf 512 (by omega) (linOf a g w n) (fun e => gh (ix1 e)) (chan p l) := by
  unfold keyOf
  rw [halves_apply, normHeads_apply]
  simp only [split_apply, slice512, joint_apply]
  rfl

/-- The values, row by row. -/
theorem valueOf_apply : valueOf a g w (ix3 p n l) = linOf a g w n ⟨1024 + (chan p l).val, by omega⟩ := by
  unfold valueOf
  rw [halves_apply, split_apply, slice1024, joint_apply]
  refine congrArg _ (Fin.ext ?_)
  show 1024 + ((p.val * 256 + l.val) / 64 * 64 + (p.val * 256 + l.val) % 64) = 1024 + (p.val * 256 + l.val)
  omega

theorem scan_ix (x : FVec Ideal S16384x512 .f32) (i : S16384x512.Idx) : truncf .bf16 x bitsLt_bf16_f32 i = x i := rfl

/-- The scan's input, row by row. -/
theorem scanOf_apply : scanOf a g w (ix2 n c) = linOf a g w n ⟨1536 + c.val, by omega⟩ := by
  unfold scanOf
  rw [scan_ix, slice1536, joint_apply]

end Cert.ProjRefIdeal.Rows

end
-- ==== Proof.ProjRun.lean ====
/- The kernel's projections, from its blocks of 512 rows to the whole arrays. -/
module

public import proofs.«01_k».proof.Proof.ProjRef
public import proofs.«01_k».proof.Proof.Gen.ProjIdeal.Value
public import Idealize.ShloMosaic.Lib.Pointwise
public import Idealize.ShloMosaic.Lib.StableHlo.RunRead

@[expose] public section

set_option maxRecDepth 16384

noncomputable section

namespace Cert.ProjIdeal.Rows

open Cert.ProjIdeal Cert.ProjIdeal.Gen Idealize.ShloMosaic Idealize.ShloMosaic.TcCoe Idealize.ShloMosaic.Tactic
open Idealize.SL Idealize.SL.Sem
open Idealize.ShloMosaic.Pipeline (Dat)
open Cert.ProjRow (shared headOf chan)
open Cert.ProjRefIdeal.Rows (queryOf keyOf valueOf scanOf)

variable (m : (ℓ : Loc nD τ sig) → Buf (Elt Ideal) ℓ) (ρ : Dev nD → PrngReg) (c : Dev nD) (t : Fin cfg0.N)

theorem t_lt : t.val < 32 := t.isLt

/-- The row of the array at row `n` of point `t`'s block. -/
abbrev at_ (n : Fin 512) : Fin 16384 := ⟨512 * t.val + n.val, by have := t_lt t; omega⟩

/-! ## The place in its array of an element of each window's block -/

theorem index_rows : ∀ t : Fin cfg0.N, win0_0.index t = ![t.val, 0] := (by decide +kernel : ∀ t : Fin grid0.N, win0_0.index t = ![t.val, 0])
theorem index_pair : ∀ t : Fin cfg0.N, win0_6.index t = ![0, t.val, 0] := (by decide +kernel : ∀ t : Fin grid0.N, win0_6.index t = ![0, t.val, 0])
theorem index_whole : ∀ t : Fin cfg0.N, win0_1.index t = ![0, 0] := (by decide +kernel : ∀ t : Fin grid0.N, win0_1.index t = ![0, 0])

theorem emb0 (n : Fin 512) (k : Fin 1024) : ((cfg0.win 0).blk t).view.emb (ix2 n k) = ix2 (at_ t n) k := by
  funext a
  apply Fin.ext
  refine (Pipeline.Window.rect_emb_val win0_0 t (ix2 n k) a).trans ?_
  rw [index_rows t]
  fin_cases a
  · show t.val * 512 + n.val = 512 * t.val + n.val; omega
  · show 0 * 1024 + k.val = k.val; omega

/-- A window that is the whole of its array at every point puts an element in its own place. -/
theorem whole_val (b i s : ℕ) (h : b = 0) : b * s + i = i := by rw [h]; omega

theorem emb1 (i : S1x1024.Idx) : ((cfg0.win 1).blk t).view.emb i = i := by
  funext a
  apply Fin.ext
  refine (Pipeline.Window.rect_emb_val win0_1 t i a).trans (whole_val _ _ _ ?_)
  rw [index_whole t]; fin_cases a <;> rfl

theorem emb2 (i : S1024x2048.Idx) : ((cfg0.win 2).blk t).view.emb i = i := by
  funext a
  apply Fin.ext
  refine (Pipeline.Window.rect_emb_val win0_2 t i a).trans (whole_val _ _ _ ?_)
  rw [show win0_2.index t = ![0, 0] from index_whole t]; fin_cases a <;> rfl

theorem emb3 (i : S512x512.Idx) : ((cfg0.win 3).blk t).view.emb i = i := by
  funext a
  apply Fin.ext
  refine (Pipeline.Window.rect_emb_val win0_3 t i a).trans (whole_val _ _ _ ?_)
  rw [show win0_3.index t = ![0, 0] from index_whole t]; fin_cases a <;> rfl

theorem emb4 (i : S1x512.Idx) : ((cfg0.win 4).blk t).view.emb i = i := by
  funext a
  apply Fin.ext
  refine (Pipeline.Window.rect_emb_val win0_4 t i a).trans (whole_val _ _ _ ?_)
  rw [show win0_4.index t = ![0, 0] from index_whole t]; fin_cases a <;> rfl

theorem emb6 (p : Fin 2) (n : Fin 512) (l : Fin 256) : ((cfg0.win 6).blk t).view.emb (ix3 p n l) = ix3 p (at_ t n) l := by
  funext a
  apply Fin.ext
  refine (Pipeline.Window.rect_emb_val win0_6 t (ix3 p n l) a).trans ?_
  rw [index_pair t]
  fin_cases a
  · show 0 * 2 + p.val = p.val; omega
  · show t.val * 512 + n.val = 512 * t.val + n.val; omega
  · show 0 * 256 + l.val = l.val; omega

theorem emb9 (n : Fin 512) (k : Fin 512) : ((cfg0.win 9).blk t).view.emb (ix2 n k) = ix2 (at_ t n) k := by
  funext a
  apply Fin.ext
  refine (Pipeline.Window.rect_emb_val win0_9 t (ix2 n k) a).trans ?_
  rw [show win0_9.index t = ![t.val, 0] from index_rows t]
  fin_cases a
  · show t.val * 512 + n.val = 512 * t.val + n.val; omega
  · show 0 * 512 + k.val = k.val; omega

/-! ## The matrix of heads -/

/-- The channels divided by the size of a head, rounded down. -/
def floored (i : IVec S512 32) (d : IVec S_ 32) : IVec S512 32 :=
  select (andi (cmpi .ne (signi i) (broadcastInDim S512 ![] bcast_S_S512 (signi d)))
      (cmpi .ne (Host.remsi i (broadcastInDim S512 ![] bcast_S_S512 d)) (broadcastInDim S512 ![] bcast_S_S512 (constantI S_ 32 0#32))))
    (subi (Host.divsi i (broadcastInDim S512 ![] bcast_S_S512 d)) (broadcastInDim S512 ![] bcast_S_S512 (constantI S_ 32 1#32)))
    (Host.divsi i (broadcastInDim S512 ![] bcast_S_S512 d))

/-- The sign of a word. -/
def sign (i : BitVec 32) : BitVec 32 := if i = 0 then 0 else if i.msb then -1 else 1

/-- The quotient of one word. -/
def word (i d : BitVec 32) : BitVec 32 :=
  Scalar.select (IntOp.cmpi .ne (sign i) (sign d) &&& IntOp.cmpi .ne (IntOp.remsi .host i d) 0#32) (IntOp.divsi .host i d - 1#32) (IntOp.divsi .host i d)

theorem word_eq : ∀ k : Fin 512, word (BitVec.ofNat 32 k.val) 64#32 = BitVec.ofNat 32 (k.val / 64) := by decide +kernel

theorem floored_apply (i : IVec S512 32) (d : BitVec 32) (k : Fin 512) : floored i (constantI S_ 32 d) (ix1 k) = word (i (ix1 k)) d := rfl

/-- The number of each channel's head. -/
def headIx : IVec S512 32 := floored (iotaInDim S512 32 0) (constantI S_ 32 64#32)

theorem headIx_apply (k : Fin 512) : headIx (ix1 k) = BitVec.ofNat 32 (k.val / 64) := by
  unfold headIx
  rw [floored_apply]
  exact word_eq k

/-- A sixty-fourth where two channels share a head. -/
def matrix (i : IVec S512 32) : FVec Ideal S512x512 .bf16 :=
  truncf .bf16 (select (cmpi .eq (broadcastInDim S512x512 ![0, 1] bcast_S512x1_S512x512_0_1 (broadcastInDim S512x1 ![0] bcast_S512_S512x1_0 i))
      (broadcastInDim S512x512 ![0, 1] bcast_S1x512_S512x512_0_1 (broadcastInDim S1x512 ![1] bcast_S512_S1x512_1 i)))
    (broadcastInDim S512x512 ![] bcast_S_S512x512 (constant S_ .f32 0x3C800000#32)) (broadcastInDim S512x512 ![] bcast_S_S512x512 (constant S_ .f32 0x00000000#32) : FVec Ideal S512x512 .f32)) bitsLt_bf16_f32

theorem words_eq : ∀ a b : Fin 8, IntOp.cmpi .eq (BitVec.ofNat 32 a.val) (BitVec.ofNat 32 b.val) = if a.val = b.val then 1 else 0 := by decide +kernel

theorem matrix_ix (i : IVec S512 32) (j k : Fin 512) : matrix i (ix2 j k)
    = Scalar.select (IntOp.cmpi .eq (i (ix1 j)) (i (ix1 k))) (Ideal.ofBits .f32 0x3C800000#32) (Ideal.ofBits .f32 0x00000000#32) := by
  pointwise [matrix]

theorem matrix_apply (j k : Fin 512) : matrix headIx (ix2 j k) = shared j k := by
  have hj := j.isLt
  have hk := k.isLt
  rw [matrix_ix, headIx_apply, headIx_apply]
  rw [show IntOp.cmpi .eq (BitVec.ofNat 32 (j.val / 64)) (BitVec.ofNat 32 (k.val / 64)) = _ from words_eq ⟨j.val / 64, by omega⟩ ⟨k.val / 64, by omega⟩]
  unfold shared
  by_cases h : j.val / 64 = k.val / 64
  · rw [if_pos h, if_pos h]; rfl
  · rw [if_neg h, if_neg h]; rfl

/-- A gain repeated in every head. -/
def repeated (g : FVec Ideal S64 .f32) : FVec Ideal S1x512 .f32 :=
  shapeCast S1x512 (shapeCast S512 (broadcastInDim S8x64 ![0, 1] bcast_S1x64_S8x64_0_1 (shapeCast S1x64 g shapeCasts_S64_S1x64 : FVec Ideal S1x64 .f32) : FVec Ideal S8x64 .f32) shapeCasts_S8x64_S512 : FVec Ideal S512 .f32) shapeCasts_S512_S1x512

theorem repeated_apply (g : FVec Ideal S64 .f32) (k : Fin 512) : repeated g (ix2 0 k) = g (ix1 ⟨k.val % 64, by omega⟩) := by
  pointwise [repeated]

theorem V8 : V m c main_v8 = matrix headIx := by
  after_reads_simp
  rfl
theorem V9 : V m c main_v9 = (shapeCast S1x1024 (m ((c.tc : Thread nD τ).loc main_arg1)) shapeCasts_S1024_S1x1024 : FVec Ideal S1x1024 .f32) := rfl
theorem V10 : V m c main_v10 = (m ((c.tc : Thread nD τ).loc main_arg2) : FVec Ideal S1024x2048 .f32) := rfl
theorem V14 : V m c main_v14 = repeated (m ((c.tc : Thread nD τ).loc main_arg3)) := rfl
theorem V18 : V m c main_v18 = repeated (m ((c.tc : Thread nD τ).loc main_arg4)) := rfl

/-! ## What the six input blocks hold, in the arguments -/

theorem cast1 (x : FVec Ideal S1024 .f32) (k : Fin 1024) : (shapeCast S1x1024 x shapeCasts_S1024_S1x1024 : FVec Ideal S1x1024 .f32) (ix2 0 k) = x (ix1 k) := by pointwise

theorem blk0 (n : Fin 512) (k : Fin 1024) : iblk m c 0 t (ix2 n k) = m ((c.tc : Thread nD τ).loc main_arg0) (ix2 (at_ t n) k) := by
  show V m c main_arg0 (((cfg0.win 0).blk t).view.emb (ix2 n k)) = _
  rw [emb0, V_main_arg0]

theorem blk1 (k : Fin 1024) : iblk m c 1 t (ix2 0 k) = m ((c.tc : Thread nD τ).loc main_arg1) (ix1 k) := by
  show V m c main_v9 (((cfg0.win 1).blk t).view.emb (ix2 0 k)) = _
  rw [emb1, V9]
  exact cast1 _ k

theorem blk2 (i : Fin 1024) (j : Fin 2048) : iblk m c 2 t (ix2 i j) = m ((c.tc : Thread nD τ).loc main_arg2) (ix2 i j) := by
  show V m c main_v10 (((cfg0.win 2).blk t).view.emb (ix2 i j)) = _
  rw [emb2, V10]

theorem blk3 (j k : Fin 512) : iblk m c 3 t (ix2 j k) = shared j k := by
  show V m c main_v8 (((cfg0.win 3).blk t).view.emb (ix2 j k)) = _
  rw [emb3, V8]
  exact matrix_apply j k

theorem blk4 (k : Fin 512) : iblk m c 4 t (ix2 0 k) = m ((c.tc : Thread nD τ).loc main_arg3) (ix1 ⟨k.val % 64, by omega⟩) := by
  show V m c main_v14 (((cfg0.win 4).blk t).view.emb (ix2 0 k)) = _
  rw [emb4, V14]
  exact repeated_apply _ k

theorem blk5 (k : Fin 512) : iblk m c 5 t (ix2 0 k) = m ((c.tc : Thread nD τ).loc main_arg4) (ix1 ⟨k.val % 64, by omega⟩) := by
  show V m c main_v18 (((cfg0.win 4).blk t).view.emb (ix2 0 k)) = _
  rw [emb4, V18]
  exact repeated_apply _ k

/-- A row of point `t`'s block times the weights. -/
theorem lin_eq (n : Fin 512) : ProjRow.linOf (iblk m c 0 t) (iblk m c 1 t) (iblk m c 2 t) n
    = ProjRefIdeal.Rows.linOf (m ((c.tc : Thread nD τ).loc main_arg0)) (m ((c.tc : Thread nD τ).loc main_arg1)) (m ((c.tc : Thread nD τ).loc main_arg2)) (at_ t n) := by
  unfold ProjRow.linOf ProjRefIdeal.Rows.linOf
  simp only [blk0, blk1, blk2]

/-! ## The results -/

/-- The reference's queries on the launch's arguments. -/
def query : FVec Ideal S2x16384x256 .bf16 :=
  queryOf (m ((c.tc : Thread nD τ).loc main_arg0)) (m ((c.tc : Thread nD τ).loc main_arg1)) (m ((c.tc : Thread nD τ).loc main_arg2)) (m ((c.tc : Thread nD τ).loc main_arg3))

/-- Its keys. -/
def key : FVec Ideal S2x16384x256 .bf16 :=
  keyOf (m ((c.tc : Thread nD τ).loc main_arg0)) (m ((c.tc : Thread nD τ).loc main_arg1)) (m ((c.tc : Thread nD τ).loc main_arg2)) (m ((c.tc : Thread nD τ).loc main_arg4))

/-- Its values. -/
def value : FVec Ideal S2x16384x256 .bf16 :=
  valueOf (m ((c.tc : Thread nD τ).loc main_arg0)) (m ((c.tc : Thread nD τ).loc main_arg1)) (m ((c.tc : Thread nD τ).loc main_arg2))

/-- Its input to the scan. -/
def scan : FVec Ideal S16384x512 .bf16 :=
  scanOf (m ((c.tc : Thread nD τ).loc main_arg0)) (m ((c.tc : Thread nD τ).loc main_arg1)) (m ((c.tc : Thread nD τ).loc main_arg2))

theorem query_entry (p : Fin 2) (n : Fin 512) (l : Fin 256) : out0_6 (iblk m c 0 t) (iblk m c 1 t) (iblk m c 2 t) (iblk m c 3 t) (iblk m c 4 t) (iblk m c 5 t) (ix3 p n l) = query m c (ix3 p (at_ t n) l) := by
  unfold query
  rw [ProjRefIdeal.Rows.queryOf_apply]
  refine (ProjRow.query_apply _ _ _ _ _ _ n p l (fun e => m ((c.tc : Thread nD τ).loc main_arg3) (ix1 e)) (blk4 m c t) (blk3 m c t)).trans ?_
  rw [lin_eq]

theorem key_entry (p : Fin 2) (n : Fin 512) (l : Fin 256) : out0_7 (iblk m c 0 t) (iblk m c 1 t) (iblk m c 2 t) (iblk m c 3 t) (iblk m c 4 t) (iblk m c 5 t) (ix3 p n l) = key m c (ix3 p (at_ t n) l) := by
  unfold key
  rw [ProjRefIdeal.Rows.keyOf_apply]
  refine (ProjRow.key_apply _ _ _ _ _ _ n p l (fun e => m ((c.tc : Thread nD τ).loc main_arg4) (ix1 e)) (blk5 m c t) (blk3 m c t)).trans ?_
  rw [lin_eq]

theorem value_entry (p : Fin 2) (n : Fin 512) (l : Fin 256) : out0_8 (iblk m c 0 t) (iblk m c 1 t) (iblk m c 2 t) (iblk m c 3 t) (iblk m c 4 t) (iblk m c 5 t) (ix3 p n l) = value m c (ix3 p (at_ t n) l) := by
  unfold value
  rw [ProjRefIdeal.Rows.valueOf_apply, ProjRow.value_apply, lin_eq]

theorem scan_entry (n k : Fin 512) : out0_9 (iblk m c 0 t) (iblk m c 1 t) (iblk m c 2 t) (iblk m c 3 t) (iblk m c 4 t) (iblk m c 5 t) (ix2 n k) = scan m c (ix2 (at_ t n) k) := by
  unfold scan
  rw [ProjRefIdeal.Rows.scanOf_apply, ProjRow.scan_apply, lin_eq]

/-! What point `t` writes back is its block of the reference's result. -/

theorem flushed6 : (dats m 0 c).flushed 6 t = ((cfg0.win 6).blk t).view.read (Elt Ideal) (query m c) := by
  rw [Value.flushed6]
  funext i
  obtain ⟨p, n, l, hi⟩ : ∃ (p : Fin 2) (n : Fin 512) (l : Fin 256), i = ix3 p n l := ⟨i 0, i 1, i 2, eq_ix3 i⟩
  show out0_6 (iblk m c 0 t) (iblk m c 1 t) (iblk m c 2 t) (iblk m c 3 t) (iblk m c 4 t) (iblk m c 5 t) i = query m c (((cfg0.win 6).blk t).view.emb i)
  rw [hi, emb6]
  exact query_entry m c t p n l

theorem flushed7 : (dats m 0 c).flushed 7 t = ((cfg0.win 7).blk t).view.read (Elt Ideal) (key m c) := by
  rw [Value.flushed7]
  funext i
  obtain ⟨p, n, l, hi⟩ : ∃ (p : Fin 2) (n : Fin 512) (l : Fin 256), i = ix3 p n l := ⟨i 0, i 1, i 2, eq_ix3 i⟩
  show out0_7 (iblk m c 0 t) (iblk m c 1 t) (iblk m c 2 t) (iblk m c 3 t) (iblk m c 4 t) (iblk m c 5 t) i = key m c (((cfg0.win 6).blk t).view.emb i)
  rw [hi, emb6]
  exact key_entry m c t p n l

theorem flushed8 : (dats m 0 c).flushed 8 t = ((cfg0.win 8).blk t).view.read (Elt Ideal) (value m c) := by
  rw [Value.flushed8]
  funext i
  obtain ⟨p, n, l, hi⟩ : ∃ (p : Fin 2) (n : Fin 512) (l : Fin 256), i = ix3 p n l := ⟨i 0, i 1, i 2, eq_ix3 i⟩
  show out0_8 (iblk m c 0 t) (iblk m c 1 t) (iblk m c 2 t) (iblk m c 3 t) (iblk m c 4 t) (iblk m c 5 t) i = value m c (((cfg0.win 6).blk t).view.emb i)
  rw [hi, emb6]
  exact value_entry m c t p n l

theorem flushed9 : (dats m 0 c).flushed 9 t = ((cfg0.win 9).blk t).view.read (Elt Ideal) (scan m c) := by
  rw [Value.flushed9]
  funext i
  obtain ⟨n, k, hi⟩ : ∃ (n k : Fin 512), i = ix2 n k := ⟨i 0, i 1, eq_ix2 i⟩
  show out0_9 (iblk m c 0 t) (iblk m c 1 t) (iblk m c 2 t) (iblk m c 3 t) (iblk m c 4 t) (iblk m c 5 t) i = scan m c (((cfg0.win 9).blk t).view.emb i)
  rw [hi, emb9]
  exact scan_entry m c t n k

/-! Every element lies in one point's block. -/

theorem mem_pair (i : S2x16384x256.Idx) : i ∈ (win0_6.rect t).set ↔ (i 1).val / 512 = t.val := by
  rw [Rect.mem_set_unit]
  have hx : win0_6.index t = ![0, t.val, 0] := index_pair t
  have e0 : win0_6.index t 0 * win0_6.size 0 = 0 := by rw [hx]; show 0 * 2 = _; omega
  have e1 : win0_6.index t 1 * win0_6.size 1 = 512 * t.val := by rw [hx]; show t.val * 512 = _; omega
  have e2 : win0_6.index t 2 * win0_6.size 2 = 0 := by rw [hx]; show 0 * 256 = _; omega
  have h0 : (i 0).val < 2 := (i 0).isLt
  have h2 : (i 2).val < 256 := (i 2).isLt
  refine ⟨fun h => ?_, fun h a => ?_⟩
  · have h1 : win0_6.index t 1 * win0_6.size 1 ≤ (i 1).val ∧ (i 1).val < win0_6.index t 1 * win0_6.size 1 + 512 := h 1
    rw [e1] at h1
    omega
  · match a with
    | ⟨0, _⟩ => show win0_6.index t 0 * win0_6.size 0 ≤ (i 0).val ∧ (i 0).val < win0_6.index t 0 * win0_6.size 0 + 2
                rw [e0]; omega
    | ⟨1, _⟩ => show win0_6.index t 1 * win0_6.size 1 ≤ (i 1).val ∧ (i 1).val < win0_6.index t 1 * win0_6.size 1 + 512
                rw [e1]; omega
    | ⟨2, _⟩ => show win0_6.index t 2 * win0_6.size 2 ≤ (i 2).val ∧ (i 2).val < win0_6.index t 2 * win0_6.size 2 + 256
                rw [e2]; omega

theorem mem6 (i : S2x16384x256.Idx) : i ∈ ((cfg0.win 6).blk t).view.set ↔ (i 1).val / 512 = t.val := by
  show i ∈ ((View.whole main_v19_0).slice (win0_6.rect t)).set ↔ _
  rw [View.set_slice_whole]; exact mem_pair t i

theorem mem7 (i : S2x16384x256.Idx) : i ∈ ((cfg0.win 7).blk t).view.set ↔ (i 1).val / 512 = t.val := by
  show i ∈ ((View.whole main_v19_1).slice (win0_7.rect t)).set ↔ _
  rw [View.set_slice_whole]; exact mem_pair t i

theorem mem8 (i : S2x16384x256.Idx) : i ∈ ((cfg0.win 8).blk t).view.set ↔ (i 1).val / 512 = t.val := by
  show i ∈ ((View.whole main_v19_2).slice (win0_8.rect t)).set ↔ _
  rw [View.set_slice_whole]; exact mem_pair t i

theorem mem9 (i : S16384x512.Idx) : i ∈ ((cfg0.win 9).blk t).view.set ↔ (i 0).val / 512 = t.val := by
  show i ∈ ((View.whole main_v19_3).slice (win0_9.rect t)).set ↔ _
  rw [View.set_slice_whole, Rect.mem_set_unit]
  have hx : win0_9.index t = ![t.val, 0] := index_rows t
  have e0 : win0_9.index t 0 * win0_9.size 0 = 512 * t.val := by rw [hx]; show t.val * 512 = _; omega
  have e1 : win0_9.index t 1 * win0_9.size 1 = 0 := by rw [hx]; show 0 * 512 = _; omega
  have hi : (i 1).val < 512 := (i 1).isLt
  refine ⟨fun h => ?_, fun h a => ?_⟩
  · have h0 : win0_9.index t 0 * win0_9.size 0 ≤ (i 0).val ∧ (i 0).val < win0_9.index t 0 * win0_9.size 0 + 512 := h 0
    rw [e0] at h0
    omega
  · match a with
    | ⟨0, _⟩ => show win0_9.index t 0 * win0_9.size 0 ≤ (i 0).val ∧ (i 0).val < win0_9.index t 0 * win0_9.size 0 + 512
                rw [e0]; omega
    | ⟨1, _⟩ => show win0_9.index t 1 * win0_9.size 1 ≤ (i 1).val ∧ (i 1).val < win0_9.index t 1 * win0_9.size 1 + 512
                rw [e1]; omega

theorem point (i : S2x16384x256.Idx) : (i 1).val / 512 < 32 := by have h : (i 1).val < 16384 := (i 1).isLt; omega

/-! The results after the run are the reference's. -/

theorem final6 : (dats m 0 c).arrAt 6 cfg0.N = query m c :=
  (dats m 0 c).arrAt_eq_of_cover 6 (query m c) (fun t _ => flushed6 m c t) fun i => ⟨⟨(i 1).val / 512, point i⟩, flush0_6 _, (mem6 _ i).2 rfl⟩

theorem final7 : (dats m 0 c).arrAt 7 cfg0.N = key m c :=
  (dats m 0 c).arrAt_eq_of_cover 7 (key m c) (fun t _ => flushed7 m c t) fun i => ⟨⟨(i 1).val / 512, point i⟩, flush0_7 _, (mem7 _ i).2 rfl⟩

theorem final8 : (dats m 0 c).arrAt 8 cfg0.N = value m c :=
  (dats m 0 c).arrAt_eq_of_cover 8 (value m c) (fun t _ => flushed8 m c t) fun i => ⟨⟨(i 1).val / 512, point i⟩, flush0_8 _, (mem8 _ i).2 rfl⟩

theorem final9 : (dats m 0 c).arrAt 9 cfg0.N = scan m c :=
  (dats m 0 c).arrAt_eq_of_cover 9 (scan m c) (fun t _ => flushed9 m c t) fun i =>
    have h : (i 0).val / 512 < 32 := by have h : (i 0).val < 16384 := (i 0).isLt; omega
    ⟨⟨(i 0).val / 512, h⟩, flush0_9 _, (mem9 _ i).2 rfl⟩

end Cert.ProjIdeal.Rows

end
-- ==== Proof.ProjClaim.lean ====
/- The claims about the projections, from the two runs. -/
module

public import proofs.«01_k».proof.Defs
public import proofs.«01_k».proof.Proof.ProjRun
public import proofs.«01_k».proof.Proof.Gen.Proj
public import proofs.«01_k».proof.Proof.Gen.Proj.Frame

@[expose] public section

noncomputable section

namespace Cert.Projection

open Idealize.ShloMosaic Idealize.SL.Sem

/-- The kernel runs, leaves its arguments and ends with its counters at zero. -/
theorem frame : Cert.quiescent_Proj := fun m ρ _ => Cert.Proj.Gen.frame m ρ

/-- So does its ideal form. -/
theorem frameIdeal : Cert.quiescent_ProjIdeal := fun m ρ _ => Cert.ProjIdeal.Gen.frame m ρ

/-- So does the reference, which has no counter. -/
theorem frameRef : Cert.quiescent_ProjRefIdeal := fun m ρ _ =>
  (θ_run Cert.ProjRefIdeal.defs _ _).mono
    (fun r h => ⟨fun c => (h c).2.2.2.2, sem_eq_zero_of_no_sems (by decide) r.2⟩)
    (Cert.ProjRefIdeal.Value.run (F := Ideal) m ρ)

/-- The ideal form is the kernel itself. -/
theorem preserves : Cert.preserves_Proj_ProjIdeal := trivial

/-- The kernel's four results are the reference's, on every argument. -/
theorem algebraic : Cert.algebraic_ProjIdeal_ProjRefIdeal := by
  intro m ρ m' ρ' _ same
  refine ⟨fun c => Cert.ProjIdeal.Rows.query m c, fun c => Cert.ProjIdeal.Rows.key m c, fun c => Cert.ProjIdeal.Rows.value m c, fun c => Cert.ProjIdeal.Rows.scan m c,
    (θ_run Cert.ProjIdeal.defs _ _).mono (fun _ h c => ⟨(h c).1.trans (Cert.ProjIdeal.Rows.final6 m c), (h c).2.1.trans (Cert.ProjIdeal.Rows.final7 m c),
      (h c).2.2.1.trans (Cert.ProjIdeal.Rows.final8 m c), (h c).2.2.2.1.trans (Cert.ProjIdeal.Rows.final9 m c), (h c).2.2.2.2⟩) (Cert.ProjIdeal.Value.run_blocks m ρ), ?_⟩
  refine (θ_run Cert.ProjRefIdeal.defs _ _).mono (fun _ h c => ⟨(h c).1.trans ?_, (h c).2.1.trans ?_, (h c).2.2.1.trans ?_, (h c).2.2.2.1.trans ?_, (h c).2.2.2.2⟩)
    (Cert.ProjRefIdeal.Value.run (F := Ideal) m' ρ')
  all_goals obtain ⟨h0, h1, h2, h3, h4⟩ := same c
  · unfold Cert.ProjIdeal.Rows.query; rw [h0, h1, h2, h3]; rfl
  · unfold Cert.ProjIdeal.Rows.key; rw [h0, h1, h2, h4]; rfl
  · unfold Cert.ProjIdeal.Rows.value; rw [h0, h1, h2]; rfl
  · unfold Cert.ProjIdeal.Rows.scan; rw [h0, h1, h2]; rfl

end Cert.Projection

end
-- ==== Proof.lean ====
/- Every claim of the certificate, gathered from the modules that prove them. -/
module

public import proofs.«01_k».proof.Defs
public import proofs.«01_k».proof.Proof.AttnClaim
public import proofs.«01_k».proof.Proof.MlpClaim
public import proofs.«01_k».proof.Proof.ProjClaim

@[expose] public section

noncomputable section

namespace Cert.Proof

/-- The stated facts of the programs, then the claims in their order. -/
theorem claim : Cert.Claim :=
  ⟨Cert.Attn4.Gen.facts, Cert.Attn4Ideal.Gen.facts, Cert.Attn4RefIdeal.Gen.facts,
    Cert.Mlp.Gen.facts, Cert.MlpIdeal.Gen.facts, Cert.MlpRefIdeal.Gen.facts,
    Cert.Proj.Gen.facts, Cert.ProjIdeal.Gen.facts, Cert.ProjRefIdeal.Gen.facts,
    Cert.Attention.frame, Cert.Attention.frameIdeal, Cert.Attention.frameRef,
    Cert.LastPart.frame, Cert.LastPart.frameIdeal, Cert.LastPart.frameRef,
    Cert.Projection.frame, Cert.Projection.frameIdeal, Cert.Projection.frameRef,
    Cert.Attention.preserves, Cert.Attention.algebraic,
    Cert.LastPart.preserves, Cert.LastPart.algebraic,
    Cert.Projection.preserves, Cert.Projection.algebraic⟩

end Cert.Proof

end
